-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 8192, 2048]⟩ ⟨3, ![4, 8192, 2048]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 2048]⟩ ⟨2, ![8192, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8192x2048 : Shape := ⟨3, ![1, 8192, 2048]⟩
abbrev S2048 : Shape := ⟨1, ![2048]⟩
abbrev S2048x2048 : Shape := ⟨2, ![2048, 2048]⟩
abbrev S2048x1024 : Shape := ⟨2, ![2048, 1024]⟩
abbrev S2x2048x1024 : Shape := ⟨3, ![2, 2048, 1024]⟩
abbrev S2x512x2048 : Shape := ⟨3, ![2, 512, 2048]⟩
abbrev S2 : Shape := ⟨1, ![2]⟩
abbrev S4 : Shape := ⟨1, ![4]⟩
abbrev S2x4 : Shape := ⟨2, ![2, 4]⟩
abbrev S_ : Shape := ⟨0, ![]⟩
abbrev S1 : Shape := ⟨1, ![1]⟩
abbrev S1x2048x1024 : Shape := ⟨3, ![1, 2048, 1024]⟩
abbrev S512x1024 : Shape := ⟨2, ![512, 1024]⟩
abbrev S1x1 : Shape := ⟨2, ![1, 1]⟩
abbrev S1x512x1024 : Shape := ⟨3, ![1, 512, 1024]⟩
abbrev S512 : Shape := ⟨1, ![512]⟩
abbrev S512x1 : Shape := ⟨2, ![512, 1]⟩
abbrev S1024 : Shape := ⟨1, ![1024]⟩
abbrev S1x1024 : Shape := ⟨2, ![1, 1024]⟩
abbrev S512x2048 : Shape := ⟨2, ![512, 2048]⟩
abbrev S1x512x2048 : Shape := ⟨3, ![1, 512, 2048]⟩

abbrev nBuf : Space → Nat
  | .hbm => 3
  | .vmem => 8
  | .smem => 0
  | _ => 0

abbrev bufTy : (tb : Table) → Fin (tcTables nBuf tb) → BufTy
  | .hbm, ⟨0, _⟩ => ⟨S1x8192x2048, .f32⟩
  | .hbm, ⟨1, _⟩ => ⟨S2048, .f32⟩
  | .hbm, ⟨2, _⟩ => ⟨S2048x2048, .f32⟩
  | .local _ .vmem, ⟨0, _⟩ => ⟨S2048, .f32⟩
  | .local _ .vmem, ⟨1, _⟩ => ⟨S2048x1024, .bf16⟩
  | .local _ .vmem, ⟨2, _⟩ => ⟨S2048x1024, .bf16⟩
  | .local _ .vmem, ⟨3, _⟩ => ⟨S2048x1024, .f32⟩
  | .local _ .vmem, ⟨4, _⟩ => ⟨S2048x1024, .f32⟩
  | .local _ .vmem, ⟨5, _⟩ => ⟨S2x2048x1024, .bf16⟩
  | .local _ .vmem, ⟨6, _⟩ => ⟨S2x2048x1024, .bf16⟩
  | .local _ .vmem, ⟨7, _⟩ => ⟨S2x512x2048, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 3 → Bool
  | ⟨0, _⟩ => true
  | ⟨1, _⟩ => true
  | ⟨2, _⟩ => false
  | _ => false

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  (ofTc nBuf bufTy 3 29 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_sem0_0 : DmaSem sig := 0
abbrev barrier0 : Sem sig := 2

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_14 : BitVec 32 := 1#32
  let v26 : BitVec 32 := Scalar.muli v24 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_17 : BitVec 32 := 1#32
  let v28 : BitVec 32 := Scalar.muli v13 c1_i32_17
  let v29 : BitVec 32 := Scalar.addi c0_i32_18 v28
  v29.toNat
def k0_off1 (d0 : Dev nD) (c0_i32_20 : BitVec 32) : Fin 3 → Nat :=
  let c0_i32_27 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_19 : BitVec 32 := 1#32
  let v30 : BitVec 32 := Scalar.subi v2 c1_i32_19
  let v31 : BitVec 32 := Scalar.subi v30 c0_i32_20
  let c4_i32_21 : BitVec 32 := 4#32
  let c0_i32_22 : BitVec 32 := 0#32
  let v32 : BitVec 1 := Scalar.cmpi .eq c4_i32_21 c0_i32_22
  let c1_i32_23 : BitVec 32 := 1#32
  let v33 : BitVec 32 := Scalar.select v32 c1_i32_23 c4_i32_21
  let v34 : BitVec 32 := Scalar.remsi v31 v33
  let c0_i32_25 : BitVec 32 := 0#32
  let v36 : BitVec 1 := Scalar.cmpi .slt v34 c0_i32_25
  let c0_i32_26 : BitVec 32 := 0#32
  let v37 : BitVec 1 := Scalar.cmpi .slt v33 c0_i32_26
  let v38 : BitVec 1 := Scalar.xori v36 v37
  let c0_i32_24 : BitVec 32 := 0#32
  let v35 : BitVec 1 := Scalar.cmpi .ne v34 c0_i32_24
  let v39 : BitVec 1 := Scalar.andi v38 v35
  let v40 : BitVec 32 := Scalar.addi v34 v33
  let v41 : BitVec 32 := Scalar.select v39 v40 v34
  let c2048_i32 : BitVec 32 := 2048#32
  let v42 : BitVec 32 := Scalar.muli v41 c2048_i32
  let c0_i32_29 : BitVec 32 := 0#32
  ![0, v42.toNat, 0]
def k0_off2 (d0 : Dev nD) (c0_i32_31 : BitVec 32) : Fin 3 → Nat :=
  let c0_i32_39 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_30 : BitVec 32 := 1#32
  let v47 : BitVec 32 := Scalar.addi v2 c1_i32_30
  let v48 : BitVec 32 := Scalar.addi v47 c0_i32_31
  let c4_i32_32 : BitVec 32 := 4#32
  let c0_i32_33 : BitVec 32 := 0#32
  let v49 : BitVec 1 := Scalar.cmpi .eq c4_i32_32 c0_i32_33
  let c1_i32_34 : BitVec 32 := 1#32
  let v50 : BitVec 32 := Scalar.select v49 c1_i32_34 c4_i32_32
  let v51 : BitVec 32 := Scalar.remsi v48 v50
  let c0_i32_36 : BitVec 32 := 0#32
  let v53 : BitVec 1 := Scalar.cmpi .slt v51 c0_i32_36
  let c0_i32_37 : BitVec 32 := 0#32
  let v54 : BitVec 1 := Scalar.cmpi .slt v50 c0_i32_37
  let v55 : BitVec 1 := Scalar.xori v53 v54
  let c0_i32_35 : BitVec 32 := 0#32
  let v52 : BitVec 1 := Scalar.cmpi .ne v51 c0_i32_35
  let v56 : BitVec 1 := Scalar.andi v55 v52
  let v57 : BitVec 32 := Scalar.addi v51 v50
  let v58 : BitVec 32 := Scalar.select v56 v57 v51
  let c2048_i32_38 : BitVec 32 := 2048#32
  let v59 : BitVec 32 := Scalar.muli v58 c2048_i32_38
  let c1024_i32 : BitVec 32 := 1024#32
  ![0, v59.toNat, 1024]
def k0_dev3 (d0 : Dev nD) : Nat :=
  let c0_i32_52 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_51 : BitVec 32 := 1#32
  let v73 : BitVec 32 := Scalar.muli v13 c1_i32_51
  let v74 : BitVec 32 := Scalar.addi c0_i32_52 v73
  v74.toNat
def k0_dev4 (d0 : Dev nD) : Nat :=
  let c0_i32_69 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_68 : BitVec 32 := 1#32
  let v91 : BitVec 32 := Scalar.muli v24 c1_i32_68
  let v92 : BitVec 32 := Scalar.addi c0_i32_69 v91
  v92.toNat
def k0_dev5 (d0 : Dev nD) : Nat :=
  let c0_i32_82 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_81 : BitVec 32 := 1#32
  let v105 : BitVec 32 := Scalar.muli v13 c1_i32_81
  let v106 : BitVec 32 := Scalar.addi c0_i32_82 v105
  v106.toNat
def k0_dev6 (d0 : Dev nD) : Nat :=
  let c0_i32_95 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_94 : BitVec 32 := 1#32
  let v119 : BitVec 32 := Scalar.muli v24 c1_i32_94
  let v120 : BitVec 32 := Scalar.addi c0_i32_95 v119
  v120.toNat
def k0_dev7 (d0 : Dev nD) : Nat :=
  let c0_i32_108 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_107 : BitVec 32 := 1#32
  let v133 : BitVec 32 := Scalar.muli v13 c1_i32_107
  let v134 : BitVec 32 := Scalar.addi c0_i32_108 v133
  v134.toNat
def k0_dev8 (d0 : Dev nD) : Nat :=
  let c0_i32_122 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_121 : BitVec 32 := 1#32
  let v147 : BitVec 32 := Scalar.muli v24 c1_i32_121
  let v148 : BitVec 32 := Scalar.addi c0_i32_122 v147
  v148.toNat
def k0_dev9 (d0 : Dev nD) : Nat :=
  let c0_i32_134 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_133 : BitVec 32 := 1#32
  let v161 : BitVec 32 := Scalar.muli v13 c1_i32_133
  let v162 : BitVec 32 := Scalar.addi c0_i32_134 v161
  v162.toNat
def k0_dev10 (d0 : Dev nD) : Nat :=
  let c0_i32_147 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_146 : BitVec 32 := 1#32
  let v175 : BitVec 32 := Scalar.muli v24 c1_i32_146
  let v176 : BitVec 32 := Scalar.addi c0_i32_147 v175
  v176.toNat
def k0_dev11 (d0 : Dev nD) : Nat :=
  let c0_i32_210 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_209 : BitVec 32 := 1#32
  let v243 : BitVec 32 := Scalar.muli v13 c1_i32_209
  let v244 : BitVec 32 := Scalar.addi c0_i32_210 v243
  v244.toNat
def k0_dev12 (d0 : Dev nD) : Nat :=
  let c0_i32_249 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_248 : BitVec 32 := 1#32
  let v277 : BitVec 32 := Scalar.muli v24 c1_i32_248
  let v278 : BitVec 32 := Scalar.addi c0_i32_249 v277
  v278.toNat
def k0_dev13 (d0 : Dev nD) : Nat :=
  let c0_i32_285 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_284 : BitVec 32 := 1#32
  let v307 : BitVec 32 := Scalar.muli v13 c1_i32_284
  let v308 : BitVec 32 := Scalar.addi c0_i32_285 v307
  v308.toNat
def k0_dev14 (d0 : Dev nD) : Nat :=
  let c0_i32_321 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_320 : BitVec 32 := 1#32
  let v337 : BitVec 32 := Scalar.muli v24 c1_i32_320
  let v338 : BitVec 32 := Scalar.addi c0_i32_321 v337
  v338.toNat
def k0_dev15 (d0 : Dev nD) : Nat :=
  let c0_i32_357 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_356 : BitVec 32 := 1#32
  let v367 : BitVec 32 := Scalar.muli v13 c1_i32_356
  let v368 : BitVec 32 := Scalar.addi c0_i32_357 v367
  v368.toNat
def k0_dev16 (d0 : Dev nD) : Nat :=
  let c0_i32_393 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_392 : BitVec 32 := 1#32
  let v397 : BitVec 32 := Scalar.muli v24 c1_i32_392
  let v398 : BitVec 32 := Scalar.addi c0_i32_393 v397
  v398.toNat
def k0_dev17 (d0 : Dev nD) : Nat :=
  let c0_i32_426 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_425 : BitVec 32 := 1#32
  let v427 : BitVec 32 := Scalar.muli v24 c1_i32_425
  let v428 : BitVec 32 := Scalar.addi c0_i32_426 v427
  v428.toNat
def k0_dev18 (d0 : Dev nD) : Nat :=
  let c0_i32_432 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_431 : BitVec 32 := 1#32
  let v429 : BitVec 32 := Scalar.muli v13 c1_i32_431
  let v430 : BitVec 32 := Scalar.addi c0_i32_432 v429
  v430.toNat
def k0_dev19 (d0 : Dev nD) : Nat :=
  let c0_i32_465 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_464 : BitVec 32 := 1#32
  let v459 : BitVec 32 := Scalar.muli v13 c1_i32_464
  let v460 : BitVec 32 := Scalar.addi c0_i32_465 v459
  v460.toNat
def k0_dev20 (d0 : Dev nD) : Nat :=
  let c0_i32_471 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_470 : BitVec 32 := 1#32
  let v461 : BitVec 32 := Scalar.muli v24 c1_i32_470
  let v462 : BitVec 32 := Scalar.addi c0_i32_471 v461
  v462.toNat
def k0_dev21 (d0 : Dev nD) : Nat :=
  let c0_i32_535 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_534 : BitVec 32 := 1#32
  let v529 : BitVec 32 := Scalar.muli v13 c1_i32_534
  let v530 : BitVec 32 := Scalar.addi c0_i32_535 v529
  v530.toNat
def k0_dev22 (d0 : Dev nD) : Nat :=
  let c0_i32_576 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_575 : BitVec 32 := 1#32
  let v563 : BitVec 32 := Scalar.muli v24 c1_i32_575
  let v564 : BitVec 32 := Scalar.addi c0_i32_576 v563
  v564.toNat
def k0_dev23 (d0 : Dev nD) : Nat :=
  let c0_i32_612 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_611 : BitVec 32 := 1#32
  let v593 : BitVec 32 := Scalar.muli v13 c1_i32_611
  let v594 : BitVec 32 := Scalar.addi c0_i32_612 v593
  v594.toNat
def k0_dev24 (d0 : Dev nD) : Nat :=
  let c0_i32_648 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_647 : BitVec 32 := 1#32
  let v623 : BitVec 32 := Scalar.muli v24 c1_i32_647
  let v624 : BitVec 32 := Scalar.addi c0_i32_648 v623
  v624.toNat
def k0_dev25 (d0 : Dev nD) : Nat :=
  let c0_i32_684 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_683 : BitVec 32 := 1#32
  let v653 : BitVec 32 := Scalar.muli v13 c1_i32_683
  let v654 : BitVec 32 := Scalar.addi c0_i32_684 v653
  v654.toNat
def k0_dev26 (d0 : Dev nD) : Nat :=
  let c0_i32_720 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_719 : BitVec 32 := 1#32
  let v683 : BitVec 32 := Scalar.muli v24 c1_i32_719
  let v684 : BitVec 32 := Scalar.addi c0_i32_720 v683
  v684.toNat
def k0_dev27 (d0 : Dev nD) : Nat :=
  let c0_i32_756 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_755 : BitVec 32 := 1#32
  let v713 : BitVec 32 := Scalar.muli v13 c1_i32_755
  let v714 : BitVec 32 := Scalar.addi c0_i32_756 v713
  v714.toNat
def k0_dev28 (d0 : Dev nD) : Nat :=
  let c0_i32_792 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.subi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_791 : BitVec 32 := 1#32
  let v743 : BitVec 32 := Scalar.muli v24 c1_i32_791
  let v744 : BitVec 32 := Scalar.addi c0_i32_792 v743
  v744.toNat
def k0_off3 (d0 : Dev nD) : Fin 3 → Nat :=
  let c0_i32_798 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_797 : BitVec 32 := 2048#32
  let v752 : BitVec 32 := Scalar.muli v2 c2048_i32_797
  let c0_i32_800 : BitVec 32 := 0#32
  ![0, v752.toNat, 0]
def k0_off4 (d0 : Dev nD) : Fin 3 → Nat :=
  let c0_i32_802 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_801 : BitVec 32 := 2048#32
  let v757 : BitVec 32 := Scalar.muli v2 c2048_i32_801
  let c1024_i32_804 : BitVec 32 := 1024#32
  ![0, v757.toNat, 1024]
abbrev stage0_0 : Fin 1 → Memref sig .tc .vmem S2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4x8192x2048 : Shape := ⟨3, ![4, 8192, 2048]⟩
abbrev S2048 : Shape := ⟨1, ![2048]⟩
abbrev S_ : Shape := ⟨0, ![]⟩
abbrev S8192x2048 : Shape := ⟨2, ![8192, 2048]⟩
abbrev S8192 : Shape := ⟨1, ![8192]⟩
abbrev S8192x1 : Shape := ⟨2, ![8192, 1]⟩
abbrev S1x2048 : Shape := ⟨2, ![1, 2048]⟩

abbrev nBuf : Space → Nat
  | .hbm => 20
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S2048, .f32⟩
  | .hbm, ⟨2, _⟩ => ⟨S_, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Ideal.Protocol.lean ====
/-
# The exchange: buffers, semaphores, what is handed over and what is owed

Four devices sit on a ring. Each sends partial sums both ways round it: the columns `0..1023` travel to the
right (`false`), the columns `1024..2047` to the left (`true`), in three hops. A hop moves four chunks of 512
rows; hops 0 and 2 land in slot 0 of the receiver's buffer and hop 1 in slot 1. Before the first hop both
neighbours hand over their receive buffers at the barrier; before the third, the receiver gives slot 0 back
by a credit. This module names the pieces of memory, the semaphores, the contents in flight, and the schedule
(`Rounds.Schedule`) of every semaphore another device may raise.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Rounds
public import Idealize.ShloMosaic.Lib.Memref
public import Idealize.ShloMosaic.Lib.Tactic

@[expose] public section

noncomputable section

namespace Cert.KernelIdeal.Exchange

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources -/

abbrev UB := URounds (GSem nD τ sig) Bool
abbrev UU := UR sig nD τ × (UB × Counters)
local notation "𝕄" => MT nD τ sig ℕ (Elt F) ℕ UU ℕ

/-- The rounds of the semaphores that other devices raise. -/
def ER : Emb UB 𝕄 :=
  ((Emb.inl : Emb UB (UB × Counters)).trans (Emb.inr : Emb (UB × Counters) UU)).trans
    (uEmb (nD := nD) (sig := sig) (Ix := ℕ) (Val := Elt F) (Name := ℕ) (U := UU) (Lvl := ℕ)).toEmb
instance ER_landsIn : (ER (F := F)).LandsIn (upEmb : UEmb _ 𝕄) := by unfold ER; infer_instance
/-- The counters of the semaphores a device raises and waits for itself. -/
abbrev EC : UEmb Counters 𝕄 := countersEmb

abbrev 𝒱₀ : Variants := Variants.none

/-! ## The ring -/

/-- The device `c` sends to in direction `d`: its right neighbour for `false`, its left one for `true`. -/
def tgt (d : Bool) (c : Dev nD) : Dev nD := if d then c + 3 else c + 1
/-- The device `c` receives from in direction `d`. -/
def frm (d : Bool) (c : Dev nD) : Dev nD := tgt (!d) c
theorem frm_tgt (d : Bool) (c : Dev nD) : frm d (tgt d c) = c := by revert d c; decide
theorem tgt_frm (d : Bool) (c : Dev nD) : tgt d (frm d c) = c := by revert d c; decide
/-- Stepping once round the ring. -/
def ring (d : Bool) : Dev nD ≃ Dev nD := ⟨tgt d, frm d, frm_tgt d, tgt_frm d⟩

/-! ## The buffers -/

abbrev sendM (d : Bool) : Memref sig .tc .vmem S2048x1024 .bf16 := match d with
  | false => Memref.whole cc0_scratch0
  | true => Memref.whole cc0_scratch1
abbrev partM (d : Bool) : Memref sig .tc .vmem S2048x1024 .f32 := match d with
  | false => Memref.whole cc0_scratch2
  | true => Memref.whole cc0_scratch3
abbrev recvM (d : Bool) : Memref sig .tc .vmem S2x2048x1024 .bf16 := match d with
  | false => Memref.whole cc0_scratch4
  | true => Memref.whole cc0_scratch5
abbrev stageM : Memref sig .tc .vmem S2x512x2048 .f32 := Memref.whole cc0_scratch6
abbrev gamM : Memref sig .tc .vmem S2048 .f32 := Memref.whole cc0_stg0_0
abbrev argM : Memref sig .tc .hbm S1x8192x2048 .f32 := Memref.whole main_arg0
abbrev outM : Memref sig .tc .hbm S2048x2048 .f32 := Memref.whole main_v1

/-- Rows `512 k .. 512 k + 511` of a 2048-row buffer. -/
theorem rows_inb (k : Fin 4) : ∀ a, (![512 * k.val, 0] : Fin 2 → ℕ) a + S512x1024.size a ≤ S2048x1024.size a := by
  revert k; decide
abbrev rowR (k : Fin 4) : Rect S2048x1024 := Rect.unit (s := S2048x1024) ![512 * k.val, 0] S512x1024.size (rows_inb k)
theorem recv_inb (σ : Fin 2) (k : Fin 4) :
    ∀ a, (![σ.val, 512 * k.val, 0] : Fin 3 → ℕ) a + S1x512x1024.size a ≤ S2x2048x1024.size a := by
  revert σ k; decide
abbrev recvR (σ : Fin 2) (k : Fin 4) : Rect S2x2048x1024 :=
  Rect.unit (s := S2x2048x1024) ![σ.val, 512 * k.val, 0] S1x512x1024.size (recv_inb σ k)
theorem out_inb (k : Fin 4) : ∀ a, (![512 * k.val, 0] : Fin 2 → ℕ) a + S512x2048.size a ≤ S2048x2048.size a := by
  revert k; decide
abbrev outR (k : Fin 4) : Rect S2048x2048 := Rect.unit (s := S2048x2048) ![512 * k.val, 0] S512x2048.size (out_inb k)
theorem stage_inb (p : Fin 2) : ∀ a, (![p.val, 0, 0] : Fin 3 → ℕ) a + S1x512x2048.size a ≤ S2x512x2048.size a := by
  revert p; decide
abbrev stageR (p : Fin 2) : Rect S2x512x2048 := Rect.unit (s := S2x512x2048) ![p.val, 0, 0] S1x512x2048.size (stage_inb p)

/-- Chunk `k` of the send buffer. -/
abbrev sendK (d : Bool) (k : Fin 4) : Memref sig .tc .vmem S512x1024 .bf16 := (sendM d).slice (rowR k) (fun _ => rfl)
/-- Chunk `k` of slot `σ` of the receive buffer. -/
abbrev recvK (d : Bool) (σ : Fin 2) (k : Fin 4) : Memref sig .tc .vmem S512x1024 .bf16 :=
  ((recvM d).slice (recvR σ k) (fun _ => rfl)).squeeze S512x1024 squeezes_S1x512x1024_S512x1024
/-- Chunk `k` of the result. -/
abbrev outK (k : Fin 4) : Memref sig .tc .hbm S512x2048 .f32 := outM.slice (outR k) (fun _ => rfl)
/-- Slot `p` of the staging buffer of the result. -/
abbrev stageK (p : Fin 2) : Memref sig .tc .vmem S512x2048 .f32 :=
  (stageM.slice (stageR p) (fun _ => rfl)).squeeze S512x2048 squeezes_S1x512x2048_S512x2048

/-- Where the block of the input that hop `s` in direction `d` adds begins; hop 3 stands for the device's own rows. -/
abbrev srcOff (d : Bool) (s : ℕ) (c : Dev nD) : Fin 3 → ℕ := match d, s with
  | false, 0 => k0_off1 c 0#32
  | false, 1 => k0_off1 c 1#32
  | false, 2 => k0_off1 c 2#32
  | false, _ => k0_off3 c
  | true, 0 => k0_off2 c 0#32
  | true, 1 => k0_off2 c 1#32
  | true, 2 => k0_off2 c 2#32
  | true, _ => k0_off4 c
theorem srcOff_inb (d : Bool) (s : ℕ) (c : Dev nD) : ∀ a, srcOff d s c a + S1x2048x1024.size a ≤ S1x8192x2048.size a := by
  match d, s with
  | false, 0 => exact k0_off1_inb c 0
  | false, 1 => exact k0_off1_inb c 1
  | false, 2 => exact k0_off1_inb c 2
  | false, _ + 3 => exact k0_off3_inb c
  | true, 0 => exact k0_off2_inb c 0
  | true, 1 => exact k0_off2_inb c 1
  | true, 2 => exact k0_off2_inb c 2
  | true, _ + 3 => exact k0_off4_inb c
/-- That block. -/
abbrev srcM (d : Bool) (s : ℕ) (c : Dev nD) : Memref sig .tc .hbm S2048x1024 .f32 :=
  (argM.slice (Rect.unit (s := S1x8192x2048) (srcOff d s c) S1x2048x1024.size (srcOff_inb d s c)) (fun _ => rfl)).squeeze
    S2048x1024 squeezes_S1x2048x1024_S2048x1024

/-! ## The semaphores -/

def loadS (d : Bool) : DmaSem sig := if d then 2 else 1
def sendS (d : Bool) (k : Fin 4) : DmaSem sig := ⟨(if d then 7 else 3) + k.val, by revert d k; decide⟩
def recvS (d : Bool) (σ : Fin 2) (k : Fin 4) : DmaSem sig := ⟨(if d then 19 else 11) + 4 * σ.val + k.val, by revert d σ k; decide⟩
def outS (p : Fin 2) : DmaSem sig := ⟨27 + p.val, by revert p; decide⟩
def credS (d : Bool) : Sem sig := if d then 1 else 0

/-- What a semaphore raised by another device is for. -/
inductive Role where
  | bar
  | cr (d : Bool)
  | rc (d : Bool) (σ : Fin 2) (k : Fin 4)
  | other
  deriving DecidableEq

/-- The semaphore of a role. -/
def semOf : Role → SemLoc sig
  | .bar => .reg barrier0
  | .cr d => .reg (credS d)
  | .rc d σ k => .dma (recvS d σ k)
  | .other => .dma 0

/-- The role of a semaphore. -/
def roleOf : SemLoc sig → Role
  | .reg s => if s = 2 then .bar else if s = 0 then .cr false else if s = 1 then .cr true else .other
  | .dma q =>
    if 11 ≤ q.val ∧ q.val < 27 then
      .rc (decide (19 ≤ q.val)) ⟨(q.val - 11) / 4 % 2, Nat.mod_lt _ (by decide)⟩ ⟨(q.val - 11) % 4, Nat.mod_lt _ (by decide)⟩
    else .other

theorem role_bar : roleOf (.reg barrier0) = .bar := rfl
theorem role_cr (d : Bool) : roleOf (.reg (credS d)) = .cr d := by revert d; decide
theorem role_rc (d : Bool) (σ : Fin 2) (k : Fin 4) : roleOf (.dma (recvS d σ k)) = .rc d σ k := by revert d σ k; decide

abbrev barCell (c : Dev nD) : GSem nD τ sig := ((c : Thread nD τ), .reg barrier0)
abbrev crCell (c : Dev nD) (d : Bool) : GSem nD τ sig := ((c : Thread nD τ), .reg (credS d))
abbrev rcCell (c : Dev nD) (d : Bool) (σ : Fin 2) (k : Fin 4) : GSem nD τ sig := ((c : Thread nD τ), .dma (recvS d σ k))

/-! ## The contents in flight -/

variable (m : (ℓ : Loc nD τ sig) → Buf (Elt F) ℓ)

/-- The partial sums hop `s` in direction `d` adds on device `c`. -/
def part (c : Dev nD) (d : Bool) (s : ℕ) : S2048x1024.Idx → Elt F .f32 :=
  (srcM d s c).view.read (Elt F) (m ((c : Thread nD τ).loc main_arg0))

/-- Chunk `k` of a 2048-row buffer's contents. -/
def rows {α : Type} (k : Fin 4) (X : S2048x1024.Idx → α) : S512x1024.Idx → α := fun i => X ((rowR k).emb i)
/-- A chunk as a load of its slot presents it. -/
def lift {α : Type} (v : S512x1024.Idx → α) : S1x512x1024.Idx → α :=
  fun i => v (Shape.reshapeEquiv (by decide : S1x512x1024.numel = S512x1024.numel) i)

/-- Chunk `k` as device `c` sends it at hop `s` in direction `d`: its own partial sums added to what it received. -/
def sent (d : Bool) (k : Fin 4) : ℕ → Dev nD → S512x1024.Idx → Elt F .bf16
  | 0, c => k0_pay1 (rows k (part m c d 0))
  | s + 1, c => k0_pay9 (rows k (part m c d (s + 1))) (lift (sent d k s (frm d c)))

/-- Some contents at a memref of device `c`. -/
def anyAt (c : Dev nD) {sp : Space} {s : Shape} {e : EltTy} (M : Memref sig .tc sp s e) : sProp 𝕄 :=
  iprop(∃ f, M.view.loc (c : Thread nD τ) ↦[M.view.set]{fullShare} f)
instance anyAt_storable (c : Dev nD) {sp : Space} {s : Shape} {e : EltTy} (M : Memref sig .tc sp s e) :
    BI.Storable (upEmb : UEmb _ 𝕄) (anyAt (F := F) c M) := by unfold anyAt; infer_instance

/-! ## The schedule -/

def rounds : Role → ℕ
  | .bar => 1
  | .cr _ => 1
  | .rc _ σ _ => if σ = 0 then 2 else 1
  | .other => 0

/-- Both neighbours raise the barrier; every other semaphore has one contribution a round. -/
def names : Role → Finset Bool
  | .bar => Finset.univ
  | _ => {false}

def units : Role → ℕ
  | .rc d σ k => (recvK d σ k).view.dmaCredit
  | _ => 1

/-- The barrier unit of neighbour `tgt e c` hands over its receive buffer of direction `e`; the credit hands over
    its slot 0, consumed; a chunk arriving hands over the chunk. -/
def handed (c : Dev nD) (r : ℕ) (e : Bool) : Role → sProp 𝕄
  | .bar => BI.bigSep Finset.univ fun p : Fin 2 × Fin 4 => anyAt (tgt e c) (recvK e p.1 p.2)
  | .cr d => BI.bigSep Finset.univ fun k : Fin 4 => iprop(anyAt (tgt d c) (recvK d 0 k) ∗ reached ER (rcCell (tgt d c) d 0 k) 1)
  | .rc d σ k => owns (c : Thread nD τ) (recvK d σ k) fullShare (sent m d k (2 * r + σ.val) (frm d c))
  | .other => iprop(emp)

instance handed_storable (c : Dev nD) (r : ℕ) (e : Bool) (x : Role) : BI.Storable (upEmb : UEmb _ 𝕄) (handed m c r e x) := by
  cases x <;> unfold handed <;> infer_instance

def Rd : Schedule (GSem nD τ sig) Bool 𝕄 where
  duties g r := if g.1.2 = .tc ∧ r < rounds (roleOf g.2) then names (roleOf g.2) else ∅
  amount g _ _ := units (roleOf g.2)
  payload g r e := handed m g.1.1 r e (roleOf g.2)
  amount_pos g r e h := by
    cases roleOf g.2 <;> first | exact Nat.one_pos | exact View.dmaCredit_pos _ (by decide)

instance Rd_storable : ∀ g r e, BI.Storable (upEmb : UEmb _ 𝕄) ((Rd m).payload g r e) := fun g r e => handed_storable m _ _ _ _

theorem duties_bar (c : Dev nD) : (Rd m).duties (barCell c) 0 = Finset.univ := by
  dsimp only [Rd]; rw [role_bar]; exact if_pos ⟨rfl, Nat.one_pos⟩
theorem duties_cr (c : Dev nD) (d : Bool) : (Rd m).duties (crCell c d) 0 = {false} := by
  dsimp only [Rd]; rw [role_cr]; exact if_pos ⟨rfl, Nat.one_pos⟩
theorem duties_rc (c : Dev nD) (d : Bool) (σ : Fin 2) (k : Fin 4) (r : ℕ) (h : 2 * r + σ.val < 3) : (Rd m).duties (rcCell c d σ k) r = {false} := by
  dsimp only [Rd]; rw [role_rc]
  refine if_pos ⟨rfl, ?_⟩
  show r < if σ = 0 then 2 else 1
  by_cases hσ : σ = 0
  · rw [if_pos hσ]; omega
  · rw [if_neg hσ]; have : σ.val ≠ 0 := fun h' => hσ (Fin.ext h'); omega
theorem duties_later (g : GSem nD τ sig) (R : ℕ) (h : rounds (roleOf g.2) ≤ R) : ∀ r, R ≤ r → (Rd m).duties g r = ∅ := fun r hr =>
  if_neg fun h' => absurd h'.2 (by omega)

theorem amount_bar (c : Dev nD) (r : ℕ) (e : Bool) : (Rd m).amount (barCell c) r e = 1 := rfl
theorem amount_cr (c : Dev nD) (d : Bool) (r : ℕ) (e : Bool) : (Rd m).amount (crCell c d) r e = 1 := by dsimp only [Rd]; rw [role_cr]; rfl
theorem amount_rc (c : Dev nD) (d : Bool) (σ : Fin 2) (k : Fin 4) (r : ℕ) (e : Bool) :
    (Rd m).amount (rcCell c d σ k) r e = (recvK d σ k).view.dmaCredit := by dsimp only [Rd]; rw [role_rc]; rfl
theorem expect_bar (c : Dev nD) : (Rd m).expect (barCell c) 0 = 2 := by
  unfold Schedule.expect; rw [duties_bar]; rfl
theorem expect_cr (c : Dev nD) (d : Bool) : (Rd m).expect (crCell c d) 0 = 1 := by
  unfold Schedule.expect Schedule.amountOf; rw [duties_cr, Finset.sum_singleton, amount_cr]
theorem expect_rc (c : Dev nD) (d : Bool) (σ : Fin 2) (k : Fin 4) (r : ℕ) (h : 2 * r + σ.val < 3) :
    (Rd m).expect (rcCell c d σ k) r = (recvK d σ k).view.dmaCredit := by
  unfold Schedule.expect Schedule.amountOf; rw [duties_rc m c d σ k r h, Finset.sum_singleton, amount_rc]
theorem payload_bar (c : Dev nD) (r : ℕ) (e : Bool) : (Rd m).payload (barCell c) r e = handed m c r e .bar := rfl
theorem payload_cr (c : Dev nD) (d : Bool) (r : ℕ) (e : Bool) : (Rd m).payload (crCell c d) r e = handed m c r e (.cr d) := by
  dsimp only [Rd]; rw [role_cr]
theorem payload_rc (c : Dev nD) (d : Bool) (σ : Fin 2) (k : Fin 4) (r : ℕ) (e : Bool) :
    (Rd m).payload (rcCell c d σ k) r e = handed m c r e (.rc d σ k) := by
  dsimp only [Rd]; rw [role_rc]

/-! ## What is owed, and the order of the waits -/

/-- One unit of work a device owes a neighbour: which neighbour, at which role's semaphore, for which hop. -/
structure Due where
  dir : Bool
  role : Role
  hop : ℕ

/-- The chunk `k` of hop `s`, in the two directions. -/
def hopDue (s : ℕ) (k : Fin 4) : List Due :=
  [⟨false, .rc false (if s = 1 then 1 else 0) k, s⟩, ⟨true, .rc true (if s = 1 then 1 else 0) k, s⟩]
/-- Everything a device owes, in the order it pays. -/
def dues : List Due :=
  [⟨true, .bar, 0⟩, ⟨false, .bar, 0⟩]
    ++ (hopDue 0 0 ++ hopDue 0 1 ++ hopDue 0 2 ++ hopDue 0 3)
    ++ (hopDue 1 0 ++ hopDue 1 1 ++ hopDue 1 2
        ++ [⟨true, .cr false, 0⟩, ⟨false, .rc false 1 3, 1⟩, ⟨false, .cr true, 0⟩, ⟨true, .rc true 1 3, 1⟩])
    ++ (hopDue 2 0 ++ hopDue 2 1 ++ hopDue 2 2 ++ hopDue 2 3)

/-- The tally of one due of device `c`. -/
def Due.at (t : Due) (c : Dev nD) : CellTallies nD τ sig ℕ := tallyAt ((tgt t.dir c : Thread nD τ), semOf t.role) t.hop (units t.role)
def oweL (c : Dev nD) : List Due → CellTallies nD τ sig ℕ
  | [] => 0
  | t :: l => oweL c l + t.at c
/-- What device `c` owes once its first `n` dues are paid. -/
def owe (c : Dev nD) (n : ℕ) : CellTallies nD τ sig ℕ := oweL c (dues.drop n)

def L (g : GSem nD τ sig) : Finset ℕ := if g.1.2 = .tc then {0, 1, 2} else ∅
theorem L_of_ne (g : GSem nD τ sig) (h : g.1.2 ≠ .tc) : L g = ∅ := if_neg h
/-- The level of a role at a hop: waits proceed upwards. -/
def level : Role → ℕ → ℕ
  | .bar, _ => 1
  | .cr _, _ => 3
  | .rc _ _ _, 0 => 2
  | .rc _ _ _, 1 => 4
  | .rc _ _ _, _ => 5
  | .other, _ => 0
def lv (g : GSem nD τ sig) (i : ℕ) : ℕ := level (roleOf g.2) i

theorem role_semOf : ∀ t ∈ dues, roleOf (semOf t.role) = t.role := by decide
theorem hop_lt : ∀ t ∈ dues, t.hop < 3 := by decide

theorem oweL_pos {c : Dev nD} {l : List Due} {g : GSem nD τ sig} {i : ℕ} (h : 0 < oweL c l g i) :
    ∃ t ∈ l, g = ((tgt t.dir c : Thread nD τ), semOf t.role) ∧ i = t.hop := by
  induction l with
  | nil => exact absurd h (Nat.lt_irrefl 0)
  | cons t l ih =>
    unfold oweL Due.at at h
    rw [Pi.add_apply, Finsupp.add_apply, tallyAt_apply] at h
    by_cases hg : g = ((tgt t.dir c : Thread nD τ), semOf t.role) ∧ i = t.hop
    · exact ⟨t, List.mem_cons_self, hg⟩
    · rw [if_neg hg] at h
      obtain ⟨t', ht', h'⟩ := ih h
      exact ⟨t', List.mem_cons_of_mem _ ht', h'⟩

theorem mem_L (c : Dev nD) (sm : SemLoc sig) (i : ℕ) (hi : i < 3) : i ∈ L ((c : Thread nD τ), sm) := by
  unfold L; rw [if_pos rfl]; simp only [Finset.mem_insert, Finset.mem_singleton]; omega

/-- A wait at hop `i` of a semaphore below everything still owed. -/
theorem mayWait (c : Dev nD) (sm : SemLoc sig) (i n : ℕ) (hi : i < 3)
    (h : ∀ t ∈ dues.drop n, level (roleOf sm) i < level t.role t.hop) :
    (levAts L lv : sProp 𝕄) ⊢ MayWait (c : Thread nD τ) sm i (owe c n) :=
  MayOwe.of_cut (L := L) (lev := lv) (level (roleOf sm) i)
    (fun p hp => by rw [Finset.mem_singleton.mp hp]; exact mem_L c sm i hi)
    (fun g j hg => by
      obtain ⟨t, ht, rfl, rfl⟩ := oweL_pos hg
      exact mem_L _ _ _ (hop_lt t (List.mem_of_mem_drop ht)))
    (fun p hp => by rw [Finset.mem_singleton.mp hp]; exact le_rfl)
    (fun g j hg => by
      obtain ⟨t, ht, rfl, rfl⟩ := oweL_pos hg
      dsimp only [lv]
      rw [role_semOf t (List.mem_of_mem_drop ht)]
      exact h t ht)

end Cert.KernelIdeal.Exchange
-- ==== Proof.Ideal.Rules.lean ====
/-
# The steps of one device

Each lemma takes one effect, or the few effects that belong together, off the head of the body: a load or a store
of a chunk, a block of the input fetched, a chunk sent, received or given back. They are stated for a direction, a
chunk and a hop, and used for all of them.
-/
module

public import proofs.«01_k».proof.Proof.Ideal.Protocol

@[expose] public section

noncomputable section

namespace Cert.KernelIdeal.Exchange

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig ℕ (Elt F) ℕ UU ℕ

abbrev Kont (F : FTy → Type) (A : Type) := A → Prog (TpuEff nD τ sig (Elt F) Λ₀ .tc) PUnit
/-- The rest of the body, run by device `c`. -/
abbrev run (c : Dev nD) (p : Prog (TpuEff nD τ sig (Elt F) Λ₀ .tc) PUnit) (Q : PUnit → sProp 𝕄) : sProp 𝕄 :=
  wp frame (wpE (defs₀ (F := F)) 𝒱₀ (c : Thread nD τ) none) Set.univ p Q

section Mem

variable (c : Dev nD) {cs : CoreSpace} {s : Shape} {e : EltTy} {Q : PUnit.{1} → sProp (MT nD τ sig ℕ (Elt F) ℕ UU ℕ)}

theorem owns_open {sp : Space} {M : Memref sig .tc sp s e} {q : PosShare TreeShare} {X : s.Idx → Elt F e} :
    (owns (c : Thread nD τ) M q X : sProp 𝕄) ⊢ iprop(∃ f, ⌜M.view.read (Elt F) f = X⌝ ∗ (M.view.loc (c : Thread nD τ) ↦[M.view.set]{q} f)) := by
  unfold owns; exact BI.Entails.refl _

theorem owns_any {sp : Space} {M : Memref sig .tc sp s e} {X : s.Idx → Elt F e} :
    (owns (c : Thread nD τ) M fullShare X : sProp 𝕄) ⊢ anyAt c M := by
  unfold owns anyAt; iintro ⟨%f, %hf, H⟩; iexists f; iexact H

theorem any_owns {sp : Space} {M : Memref sig .tc sp s e} :
    (anyAt c M : sProp 𝕄) ⊢ iprop(∃ X, owns (c : Thread nD τ) M fullShare X) := by
  unfold anyAt; iintro ⟨%f, H⟩; iexists (M.view.read (Elt F) f); iapply owns_intro; iexact H

/-- A load of a rectangle of a memref owned whole. -/
theorem load_whole {M : Memref sig .tc cs s e} {r : Rect s} {hl : M.view.LoadsAt r.toLoadRect} {q : PosShare TreeShare} {X : s.Idx → Elt F e}
    {k : Kont F (r.shape.Idx → Elt F e)} :
    (owns (c : Thread nD τ) M q X : sProp 𝕄)
      ⊢ iprop((owns (c : Thread nD τ) M q X -∗ run c (k fun i => X (r.emb i)) Q) -∗ run c (.op (.load M r.toLoadRect hl) k) Q) := by
  iintro H Hk
  ihave H := owns_open c $$ H
  icases H with ⟨%f, %hf, H⟩
  iapply (wp_load_rect 𝒱₀ (c : Thread nD τ) none Set.univ (M.view.set_slice_subset r)) $$ H
  iintro H
  subst hf
  iapply Hk
  iapply owns_intro; iexact H

/-- A load of a rectangle of a memref, the rectangle owned. -/
theorem load_slice {M : Memref sig .tc cs s e} {r : Rect s} {hr : ∀ a, r.stride a = 1} {hl : M.view.LoadsAt r.toLoadRect}
    {q : PosShare TreeShare} {X : r.shape.Idx → Elt F e} {k : Kont F (r.shape.Idx → Elt F e)} :
    (owns (c : Thread nD τ) (M.slice r hr) q X : sProp 𝕄)
      ⊢ iprop((owns (c : Thread nD τ) (M.slice r hr) q X -∗ run c (k X) Q) -∗ run c (.op (.load M r.toLoadRect hl) k) Q) := by
  iintro H Hk
  ihave H := owns_open c $$ H
  icases H with ⟨%f, %hf, H⟩
  iapply (wp_load_rect 𝒱₀ (c : Thread nD τ) none Set.univ (subset_refl (M.access r).set)) $$ H
  iintro H
  subst hf
  iapply Hk
  iapply owns_intro; iexact H

/-- A load nobody reads. -/
theorem load_dead {M : Memref sig .tc cs s e} {r : Rect s} {hr : ∀ a, r.stride a = 1} {hl : M.view.LoadsAt r.toLoadRect}
    {k : Prog (TpuEff nD τ sig (Elt F) Λ₀ .tc) PUnit} :
    (anyAt c (M.slice r hr) : sProp 𝕄)
      ⊢ iprop((anyAt c (M.slice r hr) -∗ run c k Q) -∗ run c (.op (.load M r.toLoadRect hl) fun _ => k) Q) := by
  iintro H Hk
  unfold anyAt
  icases H with ⟨%f, H⟩
  iapply (wp_load_rect 𝒱₀ (c : Thread nD τ) none Set.univ (subset_refl (M.access r).set)) $$ H
  iintro H
  iapply Hk
  iexists f; iexact H

/-- A store over a rectangle owned at any contents. -/
theorem store_slice {M : Memref sig .tc cs s e} {r : Rect s} {hr : ∀ a, r.stride a = 1} {w : r.shape.Idx → Elt F e}
    {hx : (M.access r).Stores Finset.univ} {hm : (Finset.univ : Finset r.shape.Idx) = Finset.univ ∨ ∀ a, r.stride a = 1} {k : Kont F PUnit} :
    (anyAt c (M.slice r hr) : sProp 𝕄)
      ⊢ iprop((owns (c : Thread nD τ) (M.slice r hr) fullShare w -∗ run c (k ⟨⟩) Q) -∗ run c (.op (.store M r w Finset.univ hx hm) k) Q) := by
  iintro H Hk
  unfold anyAt
  icases H with ⟨%f, H⟩
  iapply (wp_store 𝒱₀ (c : Thread nD τ) none Set.univ (S := (M.access r).set) (subset_refl _)) $$ H
  iintro H
  iapply Hk
  unfold owns
  iexists _
  isplitr
  rotate_left
  · iexact H
  · ipureintro; exact View.read_write_univ _ _

end Mem

/-- A memref with its axes of one row dropped, owned, is the memref owned. -/
theorem owns_squeeze (c : Dev nD) {sp : Space} {s s' : Shape} {e : EltTy} {M : Memref sig .tc sp s e} (h : s.Squeezes s')
    {q : PosShare TreeShare} {X : s'.Idx → Elt F e} :
    (owns (c : Thread nD τ) (M.squeeze s' h) q X : sProp 𝕄)
      = owns (c : Thread nD τ) M q (fun i => X (Shape.reshapeEquiv h.numel_eq.symm i)) := by
  refine BI.equiv_iff.mp ⟨?_, ?_⟩
  · refine (owns_open c).trans ?_
    iintro ⟨%f, %hf, H⟩
    subst hf
    unfold owns
    iexists f
    isplitr
    · ipureintro
      funext i
      exact (congrArg (M.view.read (Elt F) f) ((Shape.reshapeEquiv_reshapeEquiv _ _ i).trans (Shape.reshapeEquiv_self _ i))).symm
    · rw [Memref.set_view_squeeze]; iexact H
  · refine (owns_open c).trans ?_
    iintro ⟨%f, %hf, H⟩
    unfold owns
    iexists f
    isplitr
    · ipureintro
      funext i
      refine (congrFun hf (Shape.reshapeEquiv h.numel_eq i)).trans ?_
      exact congrArg X ((Shape.reshapeEquiv_reshapeEquiv _ _ i).trans (Shape.reshapeEquiv_self _ i))
    · rw [Memref.set_view_squeeze]; iexact H

theorem owns_recv (c : Dev nD) (d : Bool) (σ : Fin 2) (k : Fin 4) {X : S512x1024.Idx → Elt F .bf16} :
    (owns (c : Thread nD τ) (recvK d σ k) fullShare X : sProp 𝕄)
      = owns (c : Thread nD τ) ((recvM d).slice (recvR σ k) (fun _ => rfl)) fullShare (lift X) := owns_squeeze c _

/-- A load of a chunk of a receive slot presents the chunk with a leading axis of one row. -/
theorem load_recv (c : Dev nD) (d : Bool) (σ : Fin 2) (k : Fin 4) {hl : (recvM d).view.LoadsAt (recvR σ k).toLoadRect}
    {X : S512x1024.Idx → Elt F .bf16} {Q : PUnit → sProp 𝕄} {K : Kont F (S1x512x1024.Idx → Elt F .bf16)} :
    (owns (c : Thread nD τ) (recvK d σ k) fullShare X : sProp 𝕄)
      ⊢ iprop((owns (c : Thread nD τ) (recvK d σ k) fullShare X -∗ run c (K (lift X)) Q)
          -∗ run c (.op (.load (recvM d) (recvR σ k).toLoadRect hl) K) Q) := by
  rw [owns_recv]
  exact load_slice c

end Cert.KernelIdeal.Exchange
-- ==== Proof.Ideal.Steps.lean ====
/-
# Transfers, signals and waits

The input's blocks are fetched under a half share of the argument; a chunk is sent with its send semaphore and the
receiver's cell credited; the waits hand over what the schedule says.
-/
module

public import proofs.«01_k».proof.Proof.Ideal.Rules

@[expose] public section

noncomputable section

namespace Cert.KernelIdeal.Exchange

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]
local notation "𝕄" => MT nD τ sig ℕ (Elt F) ℕ UU ℕ

variable (m : (ℓ : Loc nD τ sig) → Buf (Elt F) ℓ)

/-! ## The cells -/

/-- The semaphores of one device that others raise: the barrier, the two credits, the sixteen arrivals. -/
abbrev CI := Option (Bool × Option (Fin 2 × Fin 4))
def roleI : CI → Role
  | none => .bar
  | some (d, none) => .cr d
  | some (d, some (σ, k)) => .rc d σ k
abbrev cellI (p : Dev nD × CI) : GSem nD τ sig := ((p.1 : Thread nD τ), semOf (roleI p.2))

/-- What every device knows: each cell follows the schedule and has reached its first round; the levels. -/
def facts : sProp 𝕄 :=
  iprop((BI.bigSep Finset.univ fun p : Dev nD × CI => iprop(∃ κ, cellInv ER (Rd m) κ (cellI p) ∗ reached ER (cellI p) 0)) ∗ levAts L lv)
instance facts_persistent : BI.Persistent (facts m) := by unfold facts; infer_instance

theorem facts_cell (p : Dev nD × CI) : facts m ⊢ iprop(∃ κ, cellInv ER (Rd m) κ (cellI p) ∗ reached ER (cellI p) 0) := by
  have h : (BI.bigSep Finset.univ fun p : Dev nD × CI => iprop(∃ κ, cellInv ER (Rd m) κ (cellI p) ∗ reached ER (cellI p) 0))
      ⊢ (iprop(∃ κ, cellInv ER (Rd m) κ (cellI p) ∗ reached ER (cellI p) 0) : sProp 𝕄) := BI.bigSep_elim (Finset.mem_univ p)
  unfold facts
  iintro ⟨H, -⟩
  iapply h; iexact H
theorem facts_bar (c : Dev nD) : facts m ⊢ iprop(∃ κ, cellInv ER (Rd m) κ (barCell c) ∗ reached ER (barCell c) 0) := facts_cell m (c, none)
theorem facts_cr (c : Dev nD) (d : Bool) : facts m ⊢ iprop(∃ κ, cellInv ER (Rd m) κ (crCell c d) ∗ reached ER (crCell c d) 0) :=
  facts_cell m (c, some (d, none))
theorem facts_rc (c : Dev nD) (d : Bool) (σ : Fin 2) (k : Fin 4) :
    facts m ⊢ iprop(∃ κ, cellInv ER (Rd m) κ (rcCell c d σ k) ∗ reached ER (rcCell c d σ k) 0) := facts_cell m (c, some (d, some (σ, k)))
theorem facts_lev : facts m ⊢ levAts L lv := by unfold facts; iintro ⟨-, H⟩; iexact H

/-- What device `c` owes with `n` dues paid, whatever it has waited for. -/
def owing (c : Dev nD) (n : ℕ) : sProp 𝕄 := iprop(∃ W, owes (c : Thread nD τ) (owe c n) W)

theorem role_load (d : Bool) : roleOf (.dma (loadS d)) = .other := by revert d; decide
theorem role_send (d : Bool) (k : Fin 4) : roleOf (.dma (sendS d k)) = .other := by revert d k; decide
theorem role_out (p : Fin 2) : roleOf (.dma (outS p)) = .other := by revert p; decide

/-- A semaphore only the device itself raises is below everything owed. -/
theorem mayWait_own (c : Dev nD) (q : DmaSem sig) (hq : roleOf (.dma q) = .other) (n : ℕ) :
    (levAts L lv : sProp 𝕄) ⊢ MayWait (c : Thread nD τ) (.dma q) 0 (owe c n) :=
  mayWait c _ 0 n (by decide) fun t ht => by
    have h : ∀ t ∈ dues, 0 < level t.role t.hop := by decide
    rw [hq]; exact h t (List.mem_of_mem_drop ht)

/-! ## Fetching a block of the input -/

/-- The argument at share `q`. -/
def argAt (c : Dev nD) (q : PosShare TreeShare) : sProp 𝕄 :=
  iprop((c : Thread nD τ).loc main_arg0 ↦{q} m ((c : Thread nD τ).loc main_arg0))
/-- The argument's share without the block a fetch in flight reads. -/
def argRest (c : Dev nD) (d : Bool) (s : ℕ) (q : PosShare TreeShare) : sProp 𝕄 :=
  iprop((c : Thread nD τ).loc main_arg0 ↦[Finset.univ \ (srcM d s c).view.set]{q} m ((c : Thread nD τ).loc main_arg0))
/-- The partial sums of hop `s` in place. -/
abbrev partAt (c : Dev nD) (d : Bool) (s : ℕ) : sProp 𝕄 := owns (c : Thread nD τ) (partM d) fullShare (part m c d s)
/-- A fetch in flight. -/
def fetching (c : Dev nD) (d : Bool) (s : ℕ) (q : PosShare TreeShare) : sProp 𝕄 :=
  iprop(Flight EC (c : Thread nD τ) (.dma (loadS d)) 0 ((partM d).view.dmaCredit)
      iprop(partAt m c d s ∗ ((c : Thread nD τ).loc main_arg0 ↦[(srcM d s c).view.set]{q} m ((c : Thread nD τ).loc main_arg0)))
    ∗ argRest m c d s q)

theorem fetch_start (c : Dev nD) (d : Bool) (s : ℕ) (q : PosShare TreeShare) (sm : DmaSem sig) (hsm : sm = loadS d)
    {h₁ : (srcM d s c).view.WordExact} {h₂ : (partM d).view.WordExact} {h₃ : DmaTarget.Typed (nD := nD) (p := .tc) .hbm (.dma sm) (.here (partM d))}
    {Q : PUnit → sProp 𝕄} {K : Kont F PUnit} :
    iprop(argAt m c q ∗ anyAt c (partM d) ∗ semVal ((c : Thread nD τ), .dma (loadS d)) 0)
      ⊢ iprop((fetching m c d s q -∗ run c (K ⟨⟩) Q)
          -∗ run c (.op (.enqueueDma (srcM d s c) (.here (partM d)) (.dma sm) h₁ h₂ h₃) K) Q) := by
  subst hsm
  iintro ⟨Ha, Hp, Hv⟩ Hk
  unfold argAt anyAt
  icases Hp with ⟨%fd, Hp⟩
  ihave Ha := (pointsTo_split_subset (Finset.subset_univ (srcM d s c).view.set)).1 $$ Ha
  icases Ha with ⟨Hs, Hr⟩
  iapply (wp_dmaLocal EC 𝒱₀ (c : Thread nD τ) none 0 ((partM d).view.dmaCredit) rfl (View.dmaCredit_pos _ (by decide)) (subset_refl _)
    (src := srcM d s c) (dst := partM d) (fd := fd)) $$ [Hs Hp Hv]
  · isplitl [Hs]; · iexact Hs
    isplitl [Hp] <;> iassumption
  iintro Hf
  iapply Hk
  unfold fetching argRest
  isplitl [Hf]
  · iapply (Flight_mono EC (c : Thread nD τ) ?_) $$ Hf
    iintro ⟨Hd, Hs⟩
    isplitl [Hd]
    · unfold partAt owns
      iexists _
      isplitr
      rotate_left
      · iexact Hd
      · ipureintro; exact View.read_write_univ _ _
    · iexact Hs
  · iexact Hr

theorem fetch_wait (c : Dev nD) (d : Bool) (s n : ℕ) (q : PosShare TreeShare) (sm : DmaSem sig) (hsm : sm = loadS d)
    {sp sp' : Space} {s₁ s₂ : Shape} {e₁ e₂ : EltTy} {M₁ : Memref sig .tc sp s₁ e₁} {M₂ : Memref sig .tc sp' s₂ e₂}
    (hN : M₂.view.dmaCredit = (partM d).view.dmaCredit)
    {h₁ : M₁.view.WordExact} {h₂ : M₂.view.WordExact} {Q : PUnit → sProp 𝕄} {K : Kont F PUnit} :
    iprop(facts m ∗ fetching m c d s q ∗ owing c n)
      ⊢ iprop(((argAt m c q ∗ partAt m c d s ∗ semVal ((c : Thread nD τ), .dma (loadS d)) 0 ∗ owing c n) -∗ run c (K ⟨⟩) Q)
          -∗ run c (.op (.waitDma2 sm M₁ M₂ h₁ h₂) K) Q) := by
  subst hsm
  iintro ⟨#Hfacts, Hf, Ho⟩ Hk
  unfold fetching owing
  icases Hf with ⟨Hf, Hr⟩
  icases Ho with ⟨%W, Ho⟩
  iapply (wp_waitLocalO EC 𝒱₀ (c : Thread nD τ) none 0 hN) $$ [Hf Ho]
  · isplitl [Hf]; · iexact Hf
    isplitl [Ho]; · iexact Ho
    iapply (mayWait_own c (loadS d) (role_load d) n)
    iapply (facts_lev m); iexact Hfacts
  iintro ⟨⟨Hp, Hs⟩, Hv, Ho⟩
  iapply Hk
  isplitl [Hs Hr]
  · unfold argAt argRest
    iapply (pointsTo_split_subset (Finset.subset_univ (srcM d s c).view.set)).2
    isplitl [Hs]; · iexact Hs
    iexact Hr
  isplitl [Hp]; · iexact Hp
  isplitl [Hv]; · iexact Hv
  iexists _; iexact Ho

theorem handed_rc (c : Dev nD) (r : ℕ) (e d : Bool) (σ : Fin 2) (k : Fin 4) :
    handed m c r e (.rc d σ k) = owns (c : Thread nD τ) (recvK d σ k) fullShare (sent m d k (2 * r + σ.val) (frm d c)) := rfl
theorem handed_cr (c : Dev nD) (r : ℕ) (e d : Bool) :
    handed m c r e (.cr d) = BI.bigSep Finset.univ fun k : Fin 4 => iprop(anyAt (tgt d c) (recvK d 0 k) ∗ reached ER (rcCell (tgt d c) d 0 k) 1) := rfl
theorem handed_bar (c : Dev nD) (r : ℕ) (e : Bool) :
    handed m c r e .bar = BI.bigSep Finset.univ fun p : Fin 2 × Fin 4 => anyAt (tgt e c) (recvK e p.1 p.2) := rfl

/-! ## Sending and receiving a chunk -/

/-- A send in flight: what comes back is the chunk of the send buffer. -/
def sending (c : Dev nD) (d : Bool) (k : Fin 4) : sProp 𝕄 :=
  Flight EC (c : Thread nD τ) (.dma (sendS d k)) 0 ((sendK d k).view.dmaCredit) (anyAt c (sendK d k))

theorem credit_eq (d : Bool) (σ : Fin 2) (k : Fin 4) : (recvK d σ k).view.dmaCredit = (sendK d k).view.dmaCredit := by
  cases d <;> rfl

theorem send_chunk (c x : Dev nD) (d : Bool) (σ : Fin 2) (k : Fin 4) (r n n' : ℕ) (hx : x = tgt d c) (hr : 2 * r + σ.val < 3)
    (s₁ s₂ : DmaSem sig) (hs₁ : s₁ = sendS d k) (hs₂ : s₂ = recvS d σ k)
    (hO : owe c n = owe c n' + tallyAt (rcCell (tgt d c) d σ k) (2 * r + σ.val) ((recvK d σ k).view.dmaCredit))
    {hsc : (recvK d σ k : Memref sig (Dev.tc x : Thread nD τ).2.kind .vmem S512x1024 .bf16).view.ref.isScScratch = false}
    {h₁ : (sendK d k).view.WordExact} {h₂ : (recvK d σ k).view.WordExact}
    {h₃ : DmaTarget.Typed .vmem (.dma s₂) (.remote (Dev.tc x : Thread nD τ) (recvK d σ k) (.dma s₁) hsc)}
    {Q : PUnit → sProp 𝕄} {K : Kont F PUnit} :
    iprop(facts m ∗ owns (c : Thread nD τ) (sendK d k) fullShare (sent m d k (2 * r + σ.val) c) ∗ anyAt (tgt d c) (recvK d σ k) ∗ owing c n
        ∗ semVal ((c : Thread nD τ), .dma (sendS d k)) 0 ∗ dutyTok ER (rcCell (tgt d c) d σ k) r false ∗ reached ER (rcCell (tgt d c) d σ k) r)
      ⊢ iprop(((sending c d k ∗ owing c n') -∗ run c (K ⟨⟩) Q)
          -∗ run c (.op (.enqueueDma (sendK d k) (.remote (Dev.tc x : Thread nD τ) (recvK d σ k) (.dma s₁) hsc) (.dma s₂) h₁ h₂ h₃) K) Q) := by
  subst hx hs₁ hs₂
  iintro ⟨#Hfacts, Hs, Hd, Ho, Hv, Htok, #Hre⟩ Hk
  ihave Hs := owns_open c $$ Hs
  icases Hs with ⟨%fs, %hfs, Hs⟩
  unfold anyAt owing
  icases Hd with ⟨%fd, Hd⟩
  icases Ho with ⟨%W, Ho⟩
  ihave Hrec := facts_rc m (tgt d c) d σ k $$ Hfacts
  icases Hrec with ⟨%κ', #Hinv', -⟩
  imod (flight_alloc EC (N := (recvK d σ k).view.dmaCredit) (View.dmaCredit_pos _ (by decide))
    ((sendK d k).view.loc (c : Thread nD τ) ↦[(sendK d k).view.set]{fullShare} fs) (g := ((c : Thread nD τ), .dma (sendS d k)))) $$ Hv
    with ⟨%γ, %δ, %κ, #Hinv, Hγ, Hδ⟩
  iapply (wp_enqueueDma_remote_pointsTo 𝒱₀ (c : Thread nD τ) none Set.univ (2 * r + σ.val) 0 (owe c n') ((recvK d σ k).view.dmaCredit) rfl hO)
    $$ [Hs Hd Ho] [Hγ] [Htok]
  · isplitl [Hs]; · iexact Hs
    isplitl [Hd] <;> iassumption
  · iapply (flight_creditUpdate EC (δ := δ))
    isplitr; · iexact Hinv
    iexact Hγ
  · have hpay : ((recvK d σ k).view.loc (tgt d c : Thread nD τ) ↦[(recvK d σ k).view.set]{fullShare}
          ((recvK d σ k).view.write (Elt F) fd ((sendK d k).view.read (Elt F) fs) Finset.univ) : sProp 𝕄)
        ⊢ (Rd m).payload (rcCell (tgt d c) d σ k) r false := by
      rw [payload_rc, handed_rc, frm_tgt, hfs]
      unfold owns
      iintro H
      iexists _
      isplitr
      rotate_left
      · iexact H
      · ipureintro; exact View.read_write_univ _ _
    have h := land_credit (κ := κ') ER (Rd m) (g := rcCell (tgt d c) d σ k) (r := r) (d := false)
      (by rw [duties_rc m _ d σ k r hr]; exact Finset.mem_singleton_self _) hpay
    rw [amount_rc] at h
    iapply h
    isplitr; · iexact Hinv'
    isplitl [Htok]; · iexact Htok
    iexact Hre
  iintro ⟨Hc, Ho⟩
  iapply Hk
  isplitr [Ho]
  · unfold sending
    rw [← credit_eq d σ k]
    iapply (Flight_mono EC (c : Thread nD τ) (D := iprop((sendK d k).view.loc (c : Thread nD τ) ↦[(sendK d k).view.set]{fullShare} fs)) ?_)
    · unfold anyAt; iintro H; iexists fs; iexact H
    · iapply (flight_intro EC (c : Thread nD τ) (κ := κ) (γ := γ) (δ := δ))
      isplitr; · iexact Hinv
      isplitl [Hδ] <;> iassumption
  · iexists W; iexact Ho

theorem send_wait (c : Dev nD) (d : Bool) (k : Fin 4) (n : ℕ) (sm : DmaSem sig) (hsm : sm = sendS d k)
    {sp sp' : Space} {s₁ s₂ : Shape} {e₁ e₂ : EltTy} {M₁ : Memref sig .tc sp s₁ e₁} {M₂ : Memref sig .tc sp' s₂ e₂}
    (hN : M₂.view.dmaCredit = (sendK d k).view.dmaCredit)
    {h₁ : M₁.view.WordExact} {h₂ : M₂.view.WordExact} {Q : PUnit → sProp 𝕄} {K : Kont F PUnit} :
    iprop(facts m ∗ sending c d k ∗ owing c n)
      ⊢ iprop(((anyAt c (sendK d k) ∗ semVal ((c : Thread nD τ), .dma (sendS d k)) 0 ∗ owing c n) -∗ run c (K ⟨⟩) Q)
          -∗ run c (.op (.waitDma2 sm M₁ M₂ h₁ h₂) K) Q) := by
  subst hsm
  iintro ⟨#Hfacts, Hf, Ho⟩ Hk
  unfold sending owing
  icases Ho with ⟨%W, Ho⟩
  iapply (wp_waitLocalO EC 𝒱₀ (c : Thread nD τ) none 0 hN) $$ [Hf Ho]
  · isplitl [Hf]; · iexact Hf
    isplitl [Ho]; · iexact Ho
    iapply (mayWait_own c (sendS d k) (role_send d k) n)
    iapply (facts_lev m); iexact Hfacts
  iintro ⟨Hp, Hv, Ho⟩
  iapply Hk
  isplitl [Hp]; · iexact Hp
  isplitl [Hv]; · iexact Hv
  iexists _; iexact Ho

/-- The credit a device holds for the chunk of hop `s`. -/
abbrev due (c : Dev nD) (d : Bool) (σ : Fin 2) (k : Fin 4) (s : ℕ) : sProp 𝕄 :=
  cred (tallyAt (rcCell c d σ k) s ((recvK d σ k).view.dmaCredit))

theorem recv_wait (c : Dev nD) (d : Bool) (σ : Fin 2) (k : Fin 4) (r n : ℕ) (hr : 2 * r + σ.val < 3) (sm : DmaSem sig) (hsm : sm = recvS d σ k)
    (hlev : ∀ t ∈ dues.drop n, level (.rc d σ k) (2 * r + σ.val) < level t.role t.hop)
    {sp sp' : Space} {s₁ s₂ : Shape} {e₁ e₂ : EltTy} {M₁ : Memref sig .tc sp s₁ e₁} {M₂ : Memref sig .tc sp' s₂ e₂}
    (hN : M₂.view.dmaCredit = (recvK d σ k).view.dmaCredit)
    {h₁ : M₁.view.WordExact} {h₂ : M₂.view.WordExact} {Q : PUnit → sProp 𝕄} {K : Kont F PUnit} :
    iprop(facts m ∗ due c d σ k (2 * r + σ.val) ∗ atPos ER (rcCell c d σ k) r ∅ 0 ∗ owing c n)
      ⊢ iprop(((owns (c : Thread nD τ) (recvK d σ k) fullShare (sent m d k (2 * r + σ.val) (frm d c))
            ∗ atPos ER (rcCell c d σ k) (r + 1) ∅ 0 ∗ reached ER (rcCell c d σ k) (r + 1) ∗ owing c n) -∗ run c (K ⟨⟩) Q)
          -∗ run c (.op (.waitDma2 sm M₁ M₂ h₁ h₂) K) Q) := by
  subst hsm
  iintro ⟨#Hfacts, Hc, Hat, Ho⟩ Hk
  unfold owing
  icases Ho with ⟨%W, Ho⟩
  ihave Hrec := facts_rc m c d σ k $$ Hfacts
  icases Hrec with ⟨%κ, #Hinv, -⟩
  iapply (Rounds.wp_wait_rest_token 𝒱₀ ER (Rd m) (c : Thread nD τ) none (κ := κ) (sm := .dma (recvS d σ k)) (k' := (recvK d σ k).view.dmaCredit)
    (fun K => (wpE_waitDma2_eq (defs := defs₀ (F := F)) 𝒱₀ (c : Thread nD τ) none Set.univ K).trans (by rw [hN])) (Set.mem_univ _) (2 * r + σ.val) (R := r) (m := 0) (T := ∅)
    (by rw [expect_rc m c d σ k r hr, Nat.zero_add])) $$ [Hc Ho Hat]
  · isplitr; · iexact Hinv
    isplitl [Hc]; · iexact Hc
    isplitl [Ho]; · iexact Ho
    isplitr
    · iapply (mayWait c (.dma (recvS d σ k)) (2 * r + σ.val) n hr (by rw [role_rc]; exact hlev))
      iapply (facts_lev m); iexact Hfacts
    · iexact Hat
  rw [Finset.sdiff_empty, duties_rc m c d σ k r hr, bigSep_singleton, payload_rc, handed_rc]
  iintro ⟨Ho, Hat, Hre, Hp⟩
  iapply Hk
  isplitl [Hp]; · iexact Hp
  isplitl [Hat]; · iexact Hat
  isplitl [Hre]; · iexact Hre
  iexists _; iexact Ho

/-! ## The barrier and the credits -/

/-- All of a receive buffer's chunks, at some contents. -/
abbrev recvAny (c : Dev nD) (d : Bool) : sProp 𝕄 := BI.bigSep Finset.univ fun p : Fin 2 × Fin 4 => anyAt c (recvK d p.1 p.2)

theorem bar_signal (c x : Dev nD) (e : Bool) (n n' : ℕ) (hx : x = frm e c) (sm : Sem sig) (hsm : sm = barrier0) (i : ℤ) (hi : i = ((1 : ℕ) : ℤ))
    (hO : owe c n = owe c n' + tallyAt (barCell (frm e c)) 0 1) {Q : PUnit → sProp 𝕄} {K : Kont F PUnit} :
    iprop(facts m ∗ recvAny c e ∗ dutyTok ER (barCell (frm e c)) 0 e ∗ owing c n)
      ⊢ iprop((owing c n' -∗ run c (K ⟨⟩) Q) -∗ run c (.op (.semSignal (x, .tc) sm i) K) Q) := by
  subst hx hsm hi
  iintro ⟨#Hfacts, Hp, Htok, Ho⟩ Hk
  unfold owing
  icases Ho with ⟨%W, Ho⟩
  ihave Hrec := facts_bar m (frm e c) $$ Hfacts
  icases Hrec with ⟨%κ, #Hinv, #Hre⟩
  iapply (Rounds.wp_signal 𝒱₀ ER (Rd m) (c : Thread nD τ) none (dst := (frm e c : Thread nD τ)) (κ := κ) (d := e)
      (by rw [duties_bar]; exact Finset.mem_univ _) (amount_bar m (frm e c) 0 e) 0 (owe c n') hO) $$ [Ho Htok Hp]
  · isplitr; · iexact Hinv
    isplitl [Ho]; · iexact Ho
    isplitl [Htok]; · iexact Htok
    isplitl [Hp]
    · rw [payload_bar, handed_bar, tgt_frm]; iexact Hp
    · iexact Hre
  iintro Ho
  iapply Hk
  iexists W; iexact Ho

theorem rest_bar (c : Dev nD) : bigSep ((Rd m).duties (barCell c) 0 \ ∅) (fun e => (Rd m).payload (barCell c) 0 e)
    = iprop(recvAny (tgt false c) false ∗ recvAny (tgt true c) true) := by
  rw [Finset.sdiff_empty, duties_bar, bigSep_univ_eq_bigSepL [false, true] (by decide) (by decide), bigSepL_cons_cons, bigSepL_singleton,
    payload_bar, payload_bar, handed_bar, handed_bar]
  rfl

theorem bar_wait (c : Dev nD) (n : ℕ) (sm : Sem sig) (hsm : sm = barrier0) (i : ℤ) (hi : i = ((2 : ℕ) : ℤ))
    (hlev : ∀ t ∈ dues.drop n, level .bar 0 < level t.role t.hop) {Q : PUnit → sProp 𝕄} {K : Kont F PUnit} :
    iprop(facts m ∗ cred (tallyAt (barCell c) 0 2) ∗ atPos ER (barCell c) 0 ∅ 0 ∗ owing c n)
      ⊢ iprop(((recvAny (tgt false c) false ∗ recvAny (tgt true c) true ∗ atPos ER (barCell c) 1 ∅ 0 ∗ owing c n) -∗ run c (K ⟨⟩) Q)
          -∗ run c (.op (.semWait sm i) K) Q) := by
  subst hsm hi
  iintro ⟨#Hfacts, Hc, Hat, Ho⟩ Hk
  unfold owing
  icases Ho with ⟨%W, Ho⟩
  ihave Hrec := facts_bar m c $$ Hfacts
  icases Hrec with ⟨%κ, #Hinv, -⟩
  iapply (Rounds.wp_wait_rest_token 𝒱₀ ER (Rd m) (c : Thread nD τ) none (κ := κ) (sm := .reg barrier0) (k' := 2)
    (wpE_semWait_eq 𝒱₀ (c : Thread nD τ) none Set.univ) (Set.mem_univ _) 0 (R := 0) (m := 0) (T := ∅)
    (by rw [expect_bar])) $$ [Hc Ho Hat]
  · isplitr; · iexact Hinv
    isplitl [Hc]; · iexact Hc
    isplitl [Ho]; · iexact Ho
    isplitr
    · iapply (mayWait c (.reg barrier0) 0 n (by decide) (by rw [role_bar]; exact hlev))
      iapply (facts_lev m); iexact Hfacts
    · iexact Hat
  rw [rest_bar]
  iintro ⟨Ho, Hat, -, Hf, Ht⟩
  iapply Hk
  isplitl [Hf]; · iexact Hf
  isplitl [Ht]; · iexact Ht
  isplitl [Hat]; · iexact Hat
  iexists _; iexact Ho

/-- Slot 0 of a receive buffer, consumed: the chunks, at some contents, their first round over. -/
abbrev slotFree (c : Dev nD) (d : Bool) : sProp 𝕄 :=
  BI.bigSep Finset.univ fun k : Fin 4 => iprop(anyAt c (recvK d 0 k) ∗ reached ER (rcCell c d 0 k) 1)

theorem credit_signal (c x : Dev nD) (d : Bool) (n n' : ℕ) (hx : x = frm d c) (sm : Sem sig) (hsm : sm = credS d) (i : ℤ) (hi : i = ((1 : ℕ) : ℤ))
    (hO : owe c n = owe c n' + tallyAt (crCell (frm d c) d) 0 1) {Q : PUnit → sProp 𝕄} {K : Kont F PUnit} :
    iprop(facts m ∗ slotFree c d ∗ dutyTok ER (crCell (frm d c) d) 0 false ∗ owing c n)
      ⊢ iprop((owing c n' -∗ run c (K ⟨⟩) Q) -∗ run c (.op (.semSignal (x, .tc) sm i) K) Q) := by
  subst hx hsm hi
  iintro ⟨#Hfacts, Hp, Htok, Ho⟩ Hk
  unfold owing
  icases Ho with ⟨%W, Ho⟩
  ihave Hrec := facts_cr m (frm d c) d $$ Hfacts
  icases Hrec with ⟨%κ, #Hinv, #Hre⟩
  iapply (Rounds.wp_signal 𝒱₀ ER (Rd m) (c : Thread nD τ) none (dst := (frm d c : Thread nD τ)) (κ := κ) (d := false)
      (by rw [duties_cr]; exact Finset.mem_singleton_self _) (amount_cr m (frm d c) d 0 false) 0 (owe c n') hO) $$ [Ho Htok Hp]
  · isplitr; · iexact Hinv
    isplitl [Ho]; · iexact Ho
    isplitl [Htok]; · iexact Htok
    isplitl [Hp]
    · rw [payload_cr, handed_cr, tgt_frm]; iexact Hp
    · iexact Hre
  iintro Ho
  iapply Hk
  iexists W; iexact Ho

theorem credit_wait (c : Dev nD) (d : Bool) (n : ℕ) (sm : Sem sig) (hsm : sm = credS d) (i : ℤ) (hi : i = ((1 : ℕ) : ℤ))
    (hlev : ∀ t ∈ dues.drop n, level (.cr d) 0 < level t.role t.hop) {Q : PUnit → sProp 𝕄} {K : Kont F PUnit} :
    iprop(facts m ∗ cred (tallyAt (crCell c d) 0 1) ∗ atPos ER (crCell c d) 0 ∅ 0 ∗ owing c n)
      ⊢ iprop(((slotFree (tgt d c) d ∗ atPos ER (crCell c d) 1 ∅ 0 ∗ owing c n) -∗ run c (K ⟨⟩) Q)
          -∗ run c (.op (.semWait sm i) K) Q) := by
  subst hsm hi
  iintro ⟨#Hfacts, Hc, Hat, Ho⟩ Hk
  unfold owing
  icases Ho with ⟨%W, Ho⟩
  ihave Hrec := facts_cr m c d $$ Hfacts
  icases Hrec with ⟨%κ, #Hinv, -⟩
  iapply (Rounds.wp_wait_rest_token 𝒱₀ ER (Rd m) (c : Thread nD τ) none (κ := κ) (sm := .reg (credS d)) (k' := 1)
    (wpE_semWait_eq 𝒱₀ (c : Thread nD τ) none Set.univ) (Set.mem_univ _) 0 (R := 0) (m := 0) (T := ∅)
    (by rw [expect_cr])) $$ [Hc Ho Hat]
  · isplitr; · iexact Hinv
    isplitl [Hc]; · iexact Hc
    isplitl [Ho]; · iexact Ho
    isplitr
    · iapply (mayWait c (.reg (credS d)) 0 n (by decide) (by rw [role_cr]; exact hlev))
      iapply (facts_lev m); iexact Hfacts
    · iexact Hat
  rw [Finset.sdiff_empty, duties_cr, bigSep_singleton, payload_cr, handed_cr]
  iintro ⟨Ho, Hat, -, Hp⟩
  iapply Hk
  isplitl [Hp]; · iexact Hp
  isplitl [Hat]; · iexact Hat
  iexists _; iexact Ho

end Cert.KernelIdeal.Exchange
-- ==== Proof.Ideal.Lanes.lean ====
/-
# A lane: one chunk in one direction

A lane goes through the same states for every direction and chunk: fill the send buffer, send, receive and take the
send buffer back, add, send, receive, add, send, receive. Each lemma is one of these, from one state to the next.
-/
module

public import proofs.«01_k».proof.Proof.Ideal.Steps

@[expose] public section

noncomputable section

namespace Cert.KernelIdeal.Exchange

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]
local notation "𝕄" => MT nD τ sig ℕ (Elt F) ℕ UU ℕ

variable (m : (ℓ : Loc nD τ sig) → Buf (Elt F) ℓ)

/-! ## The states -/

section States
variable (c : Dev nD) (d : Bool) (k : Fin 4)

abbrev sendZero : sProp 𝕄 := semVal ((c : Thread nD τ), .dma (sendS d k)) 0
/-- The send buffer's chunk filled for hop `s`. -/
abbrev filled (s : ℕ) : sProp 𝕄 := owns (c : Thread nD τ) (sendK d k) fullShare (sent m d k s c)
/-- The chunk of hop `s` arrived in slot `σ`. -/
abbrev arrived (σ : Fin 2) (s : ℕ) : sProp 𝕄 := owns (c : Thread nD τ) (recvK d σ k) fullShare (sent m d k s (frm d c))
/-- Where the two arrival cells stand. -/
abbrev stand (a b : ℕ) : sProp 𝕄 := iprop(atPos ER (rcCell c d 0 k) a ∅ 0 ∗ atPos ER (rcCell c d 1 k) b ∅ 0)
/-- The right to send into slot `σ` of the neighbour in its round `r`, and the credit for the chunk arriving here. -/
abbrev turn (σ : Fin 2) (r : ℕ) : sProp 𝕄 :=
  iprop(due c d σ k (2 * r + σ.val) ∗ dutyTok ER (rcCell (tgt d c) d σ k) r false)

def lane0 : sProp 𝕄 :=
  iprop(anyAt c (sendK d k) ∗ sendZero c d k ∗ stand c d k 0 0 ∗ turn c d k 0 0 ∗ turn c d k 1 0 ∗ turn c d k 0 1)
def room (σ : Fin 2) : sProp 𝕄 := anyAt (tgt d c) (recvK d σ k)
def lane1 : sProp 𝕄 :=
  iprop(filled m c d k 0 ∗ sendZero c d k ∗ stand c d k 0 0 ∗ turn c d k 0 0 ∗ turn c d k 1 0 ∗ turn c d k 0 1)
def lane2 : sProp 𝕄 :=
  iprop(sending c d k ∗ stand c d k 0 0 ∗ due c d 0 k 0 ∗ turn c d k 1 0 ∗ turn c d k 0 1)
def lane3 : sProp 𝕄 :=
  iprop(anyAt c (sendK d k) ∗ sendZero c d k ∗ arrived m c d k 0 0 ∗ reached ER (rcCell c d 0 k) 1 ∗ stand c d k 1 0 ∗ turn c d k 1 0 ∗ turn c d k 0 1)
def lane4 : sProp 𝕄 :=
  iprop(filled m c d k 1 ∗ sendZero c d k ∗ stand c d k 1 0 ∗ turn c d k 1 0 ∗ turn c d k 0 1)
/-- A chunk of slot 0 that may be overwritten. -/
def free (x : Dev nD) : sProp 𝕄 := iprop(anyAt x (recvK d 0 k) ∗ reached ER (rcCell x d 0 k) 1)
def lane5 : sProp 𝕄 := iprop(sending c d k ∗ stand c d k 1 0 ∗ due c d 1 k 1 ∗ turn c d k 0 1)
def lane6 : sProp 𝕄 := iprop(anyAt c (sendK d k) ∗ sendZero c d k ∗ arrived m c d k 1 1 ∗ stand c d k 1 1 ∗ turn c d k 0 1)
def lane7 : sProp 𝕄 := iprop(filled m c d k 2 ∗ sendZero c d k ∗ anyAt c (recvK d 1 k) ∗ stand c d k 1 1 ∗ turn c d k 0 1)
def lane8 : sProp 𝕄 := iprop(sending c d k ∗ anyAt c (recvK d 1 k) ∗ stand c d k 1 1 ∗ due c d 0 k 2)
def lane9 : sProp 𝕄 := iprop(sending c d k ∗ anyAt c (recvK d 1 k) ∗ stand c d k 2 1)
def lane10 : sProp 𝕄 := iprop(anyAt c (sendK d k) ∗ sendZero c d k ∗ anyAt c (recvK d 1 k) ∗ stand c d k 2 1)

end States

/-! ## The steps -/

section Run
variable (c : Dev nD) (d : Bool) (k : Fin 4)

/-- The first chunk of a hop: this device's own partial sums. -/
theorem lane_fill {w : (S512x1024.Idx → Elt F .f32) → S512x1024.Idx → Elt F .bf16} (hw : ∀ x, w x = k0_pay1 x)
    {h₁ : (partM d).view.LoadsAt (rowR k).toLoadRect} {h₂ : (sendM d).view.LoadsAt (rowR k).toLoadRect}
    {h₃ : ((sendM d).access (rowR k)).Stores Finset.univ} {h₄ : (Finset.univ : Finset (rowR k).shape.Idx) = Finset.univ ∨ ∀ a, (rowR k).stride a = 1}
    {Q : PUnit → sProp 𝕄} {K : Kont F PUnit} :
    iprop(partAt m c d 0 ∗ lane0 c d k)
      ⊢ iprop(((partAt m c d 0 ∗ lane1 m c d k) -∗ run c (K ⟨⟩) Q)
          -∗ run c (.op (.load (partM d) (rowR k).toLoadRect h₁) fun x => .op (.load (sendM d) (rowR k).toLoadRect h₂) fun _ =>
              .op (.store (sendM d) (rowR k) (w x) Finset.univ h₃ h₄) K) Q) := by
  unfold lane0 lane1
  iintro ⟨Hp, Hs, H⟩ Hk
  iapply (load_whole c) $$ Hp
  iintro Hp
  iapply (load_dead c (hr := fun _ => rfl)) $$ Hs
  iintro Hs
  iapply (store_slice c (hr := fun _ => rfl)) $$ Hs
  iintro Hs
  iapply Hk
  isplitl [Hp]; · iexact Hp
  isplitr [H]
  · rw [hw]; iexact Hs
  · iexact H

/-- The load of one's own partial sums, of what arrived in slot `σ`, their sum stored over the send buffer. -/
theorem add_chunk (σ : Fin 2) (s : ℕ) {w : (S512x1024.Idx → Elt F .f32) → (S1x512x1024.Idx → Elt F .bf16) → S512x1024.Idx → Elt F .bf16}
    (hw : ∀ x r, w x r = k0_pay9 x r)
    {h₁ : (partM d).view.LoadsAt (rowR k).toLoadRect} {h₀ : (recvM d).view.LoadsAt (recvR σ k).toLoadRect} {h₂ : (sendM d).view.LoadsAt (rowR k).toLoadRect}
    {h₃ : ((sendM d).access (rowR k)).Stores Finset.univ} {h₄ : (Finset.univ : Finset (rowR k).shape.Idx) = Finset.univ ∨ ∀ a, (rowR k).stride a = 1}
    {Q : PUnit → sProp 𝕄} {K : Kont F PUnit} :
    iprop(partAt m c d (s + 1) ∗ arrived m c d k σ s ∗ anyAt c (sendK d k))
      ⊢ iprop(((partAt m c d (s + 1) ∗ anyAt c (recvK d σ k) ∗ filled m c d k (s + 1)) -∗ run c (K ⟨⟩) Q)
          -∗ run c (.op (.load (partM d) (rowR k).toLoadRect h₁) fun x => .op (.load (recvM d) (recvR σ k).toLoadRect h₀) fun r =>
              .op (.load (sendM d) (rowR k).toLoadRect h₂) fun _ => .op (.store (sendM d) (rowR k) (w x r) Finset.univ h₃ h₄) K) Q) := by
  iintro ⟨Hp, Hr, Hs⟩ Hk
  iapply (load_whole c) $$ Hp
  iintro Hp
  iapply (load_recv c d σ k) $$ Hr
  iintro Hr
  iapply (load_dead c (hr := fun _ => rfl)) $$ Hs
  iintro Hs
  iapply (store_slice c (hr := fun _ => rfl)) $$ Hs
  iintro Hs
  iapply Hk
  isplitl [Hp]; · iexact Hp
  isplitl [Hr]; · iapply (owns_any c); iexact Hr
  rw [hw]; iexact Hs

theorem lane_add1 {w : (S512x1024.Idx → Elt F .f32) → (S1x512x1024.Idx → Elt F .bf16) → S512x1024.Idx → Elt F .bf16}
    (hw : ∀ x r, w x r = k0_pay9 x r)
    {h₁ : (partM d).view.LoadsAt (rowR k).toLoadRect} {h₀ : (recvM d).view.LoadsAt (recvR 0 k).toLoadRect} {h₂ : (sendM d).view.LoadsAt (rowR k).toLoadRect}
    {h₃ : ((sendM d).access (rowR k)).Stores Finset.univ} {h₄ : (Finset.univ : Finset (rowR k).shape.Idx) = Finset.univ ∨ ∀ a, (rowR k).stride a = 1}
    {Q : PUnit → sProp 𝕄} {K : Kont F PUnit} :
    iprop(partAt m c d 1 ∗ lane3 m c d k)
      ⊢ iprop(((partAt m c d 1 ∗ lane4 m c d k ∗ free d k c) -∗ run c (K ⟨⟩) Q)
          -∗ run c (.op (.load (partM d) (rowR k).toLoadRect h₁) fun x => .op (.load (recvM d) (recvR 0 k).toLoadRect h₀) fun r =>
              .op (.load (sendM d) (rowR k).toLoadRect h₂) fun _ => .op (.store (sendM d) (rowR k) (w x r) Finset.univ h₃ h₄) K) Q) := by
  unfold lane3 lane4 free
  iintro ⟨Hp, Hs, Hv, Ha, Hre, H⟩ Hk
  iapply (add_chunk m c d k 0 0 hw) $$ [Hp Ha Hs]
  · isplitl [Hp]; · iexact Hp
    isplitl [Ha] <;> iassumption
  iintro ⟨Hp, Ha, Hs⟩
  iapply Hk
  isplitl [Hp]; · iexact Hp
  isplitr [Ha Hre]
  · isplitl [Hs]; · iexact Hs
    isplitl [Hv] <;> iassumption
  · isplitl [Ha] <;> iassumption

theorem lane_add2 {w : (S512x1024.Idx → Elt F .f32) → (S1x512x1024.Idx → Elt F .bf16) → S512x1024.Idx → Elt F .bf16}
    (hw : ∀ x r, w x r = k0_pay9 x r)
    {h₁ : (partM d).view.LoadsAt (rowR k).toLoadRect} {h₀ : (recvM d).view.LoadsAt (recvR 1 k).toLoadRect} {h₂ : (sendM d).view.LoadsAt (rowR k).toLoadRect}
    {h₃ : ((sendM d).access (rowR k)).Stores Finset.univ} {h₄ : (Finset.univ : Finset (rowR k).shape.Idx) = Finset.univ ∨ ∀ a, (rowR k).stride a = 1}
    {Q : PUnit → sProp 𝕄} {K : Kont F PUnit} :
    iprop(partAt m c d 2 ∗ lane6 m c d k)
      ⊢ iprop(((partAt m c d 2 ∗ lane7 m c d k) -∗ run c (K ⟨⟩) Q)
          -∗ run c (.op (.load (partM d) (rowR k).toLoadRect h₁) fun x => .op (.load (recvM d) (recvR 1 k).toLoadRect h₀) fun r =>
              .op (.load (sendM d) (rowR k).toLoadRect h₂) fun _ => .op (.store (sendM d) (rowR k) (w x r) Finset.univ h₃ h₄) K) Q) := by
  unfold lane6 lane7
  iintro ⟨Hp, Hs, Hv, Ha, H⟩ Hk
  iapply (add_chunk m c d k 1 1 hw) $$ [Hp Ha Hs]
  · isplitl [Hp]; · iexact Hp
    isplitl [Ha] <;> iassumption
  iintro ⟨Hp, Ha, Hs⟩
  iapply Hk
  isplitl [Hp]; · iexact Hp
  isplitl [Hs]; · iexact Hs
  isplitl [Hv]; · iexact Hv
  isplitl [Ha] <;> iassumption

section Send
variable (x : Dev nD) (n n' : ℕ) (s₁ s₂ : DmaSem sig)

theorem lane_send0 (hx : x = tgt d c) (hs₁ : s₁ = sendS d k) (hs₂ : s₂ = recvS d 0 k)
    (hO : owe c n = owe c n' + tallyAt (rcCell (tgt d c) d 0 k) 0 ((recvK d 0 k).view.dmaCredit))
    {hsc : (recvK d 0 k : Memref sig (Dev.tc x : Thread nD τ).2.kind .vmem S512x1024 .bf16).view.ref.isScScratch = false}
    {h₁ : (sendK d k).view.WordExact} {h₂ : (recvK d 0 k).view.WordExact}
    {h₃ : DmaTarget.Typed .vmem (.dma s₂) (.remote (Dev.tc x : Thread nD τ) (recvK d 0 k) (.dma s₁) hsc)}
    {Q : PUnit → sProp 𝕄} {K : Kont F PUnit} :
    iprop(facts m ∗ lane1 m c d k ∗ room c d k 0 ∗ owing c n)
      ⊢ iprop(((lane2 c d k ∗ owing c n') -∗ run c (K ⟨⟩) Q)
          -∗ run c (.op (.enqueueDma (sendK d k) (.remote (Dev.tc x : Thread nD τ) (recvK d 0 k) (.dma s₁) hsc) (.dma s₂) h₁ h₂ h₃) K) Q) := by
  unfold lane1 lane2 room
  iintro ⟨#Hf, ⟨Hs, Hv, Hst, ⟨Hd, Ht⟩, H⟩, Hr, Ho⟩ Hk
  ihave Hre := facts_rc m (tgt d c) d 0 k $$ Hf
  icases Hre with ⟨%κ, -, #Hre⟩
  iapply (send_chunk m c x d 0 k 0 n n' hx (by decide) s₁ s₂ hs₁ hs₂ hO) $$ [Hs Hr Ho Hv Ht]
  · isplitr; · iexact Hf
    isplitl [Hs]; · iexact Hs
    isplitl [Hr]; · iexact Hr
    isplitl [Ho]; · iexact Ho
    isplitl [Hv]; · iexact Hv
    isplitl [Ht]; · iexact Ht
    iexact Hre
  iintro ⟨Hs, Ho⟩
  iapply Hk
  isplitr [Ho]
  · isplitl [Hs]; · iexact Hs
    isplitl [Hst]; · iexact Hst
    isplitl [Hd] <;> iassumption
  · iexact Ho

theorem lane_send1 (hx : x = tgt d c) (hs₁ : s₁ = sendS d k) (hs₂ : s₂ = recvS d 1 k)
    (hO : owe c n = owe c n' + tallyAt (rcCell (tgt d c) d 1 k) 1 ((recvK d 1 k).view.dmaCredit))
    {hsc : (recvK d 1 k : Memref sig (Dev.tc x : Thread nD τ).2.kind .vmem S512x1024 .bf16).view.ref.isScScratch = false}
    {h₁ : (sendK d k).view.WordExact} {h₂ : (recvK d 1 k).view.WordExact}
    {h₃ : DmaTarget.Typed .vmem (.dma s₂) (.remote (Dev.tc x : Thread nD τ) (recvK d 1 k) (.dma s₁) hsc)}
    {Q : PUnit → sProp 𝕄} {K : Kont F PUnit} :
    iprop(facts m ∗ lane4 m c d k ∗ room c d k 1 ∗ owing c n)
      ⊢ iprop(((lane5 c d k ∗ owing c n') -∗ run c (K ⟨⟩) Q)
          -∗ run c (.op (.enqueueDma (sendK d k) (.remote (Dev.tc x : Thread nD τ) (recvK d 1 k) (.dma s₁) hsc) (.dma s₂) h₁ h₂ h₃) K) Q) := by
  unfold lane4 lane5 room
  iintro ⟨#Hf, ⟨Hs, Hv, Hst, ⟨Hd, Ht⟩, H⟩, Hr, Ho⟩ Hk
  ihave Hre := facts_rc m (tgt d c) d 1 k $$ Hf
  icases Hre with ⟨%κ, -, #Hre⟩
  iapply (send_chunk m c x d 1 k 0 n n' hx (by decide) s₁ s₂ hs₁ hs₂ hO) $$ [Hs Hr Ho Hv Ht]
  · isplitr; · iexact Hf
    isplitl [Hs]; · iexact Hs
    isplitl [Hr]; · iexact Hr
    isplitl [Ho]; · iexact Ho
    isplitl [Hv]; · iexact Hv
    isplitl [Ht]; · iexact Ht
    iexact Hre
  iintro ⟨Hs, Ho⟩
  iapply Hk
  isplitr [Ho]
  · isplitl [Hs]; · iexact Hs
    isplitl [Hst]; · iexact Hst
    isplitl [Hd] <;> iassumption
  · iexact Ho

theorem lane_send2 (hx : x = tgt d c) (hs₁ : s₁ = sendS d k) (hs₂ : s₂ = recvS d 0 k)
    (hO : owe c n = owe c n' + tallyAt (rcCell (tgt d c) d 0 k) 2 ((recvK d 0 k).view.dmaCredit))
    {hsc : (recvK d 0 k : Memref sig (Dev.tc x : Thread nD τ).2.kind .vmem S512x1024 .bf16).view.ref.isScScratch = false}
    {h₁ : (sendK d k).view.WordExact} {h₂ : (recvK d 0 k).view.WordExact}
    {h₃ : DmaTarget.Typed .vmem (.dma s₂) (.remote (Dev.tc x : Thread nD τ) (recvK d 0 k) (.dma s₁) hsc)}
    {Q : PUnit → sProp 𝕄} {K : Kont F PUnit} :
    iprop(facts m ∗ lane7 m c d k ∗ free d k (tgt d c) ∗ owing c n)
      ⊢ iprop(((lane8 c d k ∗ owing c n') -∗ run c (K ⟨⟩) Q)
          -∗ run c (.op (.enqueueDma (sendK d k) (.remote (Dev.tc x : Thread nD τ) (recvK d 0 k) (.dma s₁) hsc) (.dma s₂) h₁ h₂ h₃) K) Q) := by
  unfold lane7 lane8 free
  iintro ⟨#Hf, ⟨Hs, Hv, Ha, Hst, Hd, Ht⟩, ⟨Hr, #Hre⟩, Ho⟩ Hk
  iapply (send_chunk m c x d 0 k 1 n n' hx (by decide) s₁ s₂ hs₁ hs₂ hO) $$ [Hs Hr Ho Hv Ht]
  · isplitr; · iexact Hf
    isplitl [Hs]; · iexact Hs
    isplitl [Hr]; · iexact Hr
    isplitl [Ho]; · iexact Ho
    isplitl [Hv]; · iexact Hv
    isplitl [Ht]; · iexact Ht
    iexact Hre
  iintro ⟨Hs, Ho⟩
  iapply Hk
  isplitr [Ho]
  · isplitl [Hs]; · iexact Hs
    isplitl [Ha]; · iexact Ha
    isplitl [Hst] <;> iassumption
  · iexact Ho

end Send

section Wait
variable (n : ℕ) (s₁ s₂ : DmaSem sig) {sp₁ sp₂ sp₃ sp₄ : Space} {t₁ t₂ t₃ t₄ : Shape} {e₁ e₂ e₃ e₄ : EltTy}
  {M₁ : Memref sig .tc sp₁ t₁ e₁} {M₂ : Memref sig .tc sp₂ t₂ e₂} {M₃ : Memref sig .tc sp₃ t₃ e₃} {M₄ : Memref sig .tc sp₄ t₄ e₄}
  {h₁ : M₁.view.WordExact} {h₂ : M₂.view.WordExact} {h₃ : M₃.view.WordExact} {h₄ : M₄.view.WordExact}

/-- The first arrival, and the send buffer back. -/
theorem lane_take0 (hs₂ : s₂ = recvS d 0 k) (hs₁ : s₁ = sendS d k)
    (hlev : ∀ t ∈ dues.drop n, level (.rc d 0 k) 0 < level t.role t.hop)
    (hN₂ : M₂.view.dmaCredit = (recvK d 0 k).view.dmaCredit) (hN₁ : M₄.view.dmaCredit = (sendK d k).view.dmaCredit)
    {Q : PUnit → sProp 𝕄} {K : Kont F PUnit} :
    iprop(facts m ∗ lane2 c d k ∗ owing c n)
      ⊢ iprop(((lane3 m c d k ∗ owing c n) -∗ run c (K ⟨⟩) Q)
          -∗ run c (.op (.waitDma2 s₂ M₁ M₂ h₁ h₂) fun _ => .op (.waitDma2 s₁ M₃ M₄ h₃ h₄) K) Q) := by
  unfold lane2 lane3
  iintro ⟨#Hf, ⟨Hs, ⟨H0, H1⟩, Hd, Ht⟩, Ho⟩ Hk
  iapply (recv_wait m c d 0 k 0 n (by decide) s₂ hs₂ hlev hN₂) $$ [Hd H0 Ho]
  · isplitr; · iexact Hf
    isplitl [Hd]; · iexact Hd
    isplitl [H0] <;> iassumption
  iintro ⟨Ha, H0, Hre, Ho⟩
  iapply (send_wait m c d k n s₁ hs₁ hN₁) $$ [Hs Ho]
  · isplitr; · iexact Hf
    isplitl [Hs] <;> iassumption
  iintro ⟨Hs, Hv, Ho⟩
  iapply Hk
  isplitr [Ho]
  · isplitl [Hs]; · iexact Hs
    isplitl [Hv]; · iexact Hv
    isplitl [Ha]; · iexact Ha
    isplitl [Hre]; · iexact Hre
    isplitl [H0 H1]
    · isplitl [H0] <;> iassumption
    · iexact Ht
  · iexact Ho

/-- The second arrival, and the send buffer back. -/
theorem lane_take1 (hs₂ : s₂ = recvS d 1 k) (hs₁ : s₁ = sendS d k)
    (hlev : ∀ t ∈ dues.drop n, level (.rc d 1 k) 1 < level t.role t.hop)
    (hN₂ : M₂.view.dmaCredit = (recvK d 1 k).view.dmaCredit) (hN₁ : M₄.view.dmaCredit = (sendK d k).view.dmaCredit)
    {Q : PUnit → sProp 𝕄} {K : Kont F PUnit} :
    iprop(facts m ∗ lane5 c d k ∗ owing c n)
      ⊢ iprop(((lane6 m c d k ∗ owing c n) -∗ run c (K ⟨⟩) Q)
          -∗ run c (.op (.waitDma2 s₂ M₁ M₂ h₁ h₂) fun _ => .op (.waitDma2 s₁ M₃ M₄ h₃ h₄) K) Q) := by
  unfold lane5 lane6
  iintro ⟨#Hf, ⟨Hs, ⟨H0, H1⟩, Hd, Ht⟩, Ho⟩ Hk
  iapply (recv_wait m c d 1 k 0 n (by decide) s₂ hs₂ hlev hN₂) $$ [Hd H1 Ho]
  · isplitr; · iexact Hf
    isplitl [Hd]; · iexact Hd
    isplitl [H1] <;> iassumption
  iintro ⟨Ha, H1, -, Ho⟩
  iapply (send_wait m c d k n s₁ hs₁ hN₁) $$ [Hs Ho]
  · isplitr; · iexact Hf
    isplitl [Hs] <;> iassumption
  iintro ⟨Hs, Hv, Ho⟩
  iapply Hk
  isplitr [Ho]
  · isplitl [Hs]; · iexact Hs
    isplitl [Hv]; · iexact Hv
    isplitl [Ha]; · iexact Ha
    isplitl [H0 H1]
    · isplitl [H0] <;> iassumption
    · iexact Ht
  · iexact Ho

/-- The last arrival. -/
theorem lane_take2 (hs₂ : s₂ = recvS d 0 k)
    (hlev : ∀ t ∈ dues.drop n, level (.rc d 0 k) 2 < level t.role t.hop)
    (hN₂ : M₂.view.dmaCredit = (recvK d 0 k).view.dmaCredit)
    {Q : PUnit → sProp 𝕄} {K : Kont F PUnit} :
    iprop(facts m ∗ lane8 c d k ∗ owing c n)
      ⊢ iprop(((lane9 c d k ∗ arrived m c d k 0 2 ∗ owing c n) -∗ run c (K ⟨⟩) Q)
          -∗ run c (.op (.waitDma2 s₂ M₁ M₂ h₁ h₂) K) Q) := by
  unfold lane8 lane9
  iintro ⟨#Hf, ⟨Hs, Hr, ⟨H0, H1⟩, Hd⟩, Ho⟩ Hk
  iapply (recv_wait m c d 0 k 1 n (by decide) s₂ hs₂ hlev hN₂) $$ [Hd H0 Ho]
  · isplitr; · iexact Hf
    isplitl [Hd]; · iexact Hd
    isplitl [H0] <;> iassumption
  iintro ⟨Ha, H0, -, Ho⟩
  iapply Hk
  isplitr [Ha Ho]
  · isplitl [Hs]; · iexact Hs
    isplitl [Hr]; · iexact Hr
    isplitl [H0] <;> iassumption
  · isplitl [Ha] <;> iassumption

/-- The last send's buffer back. -/
theorem lane_drain (hs₁ : s₁ = sendS d k) (hN₁ : M₄.view.dmaCredit = (sendK d k).view.dmaCredit)
    {Q : PUnit → sProp 𝕄} {K : Kont F PUnit} :
    iprop(facts m ∗ lane9 c d k ∗ owing c n)
      ⊢ iprop(((lane10 c d k ∗ owing c n) -∗ run c (K ⟨⟩) Q)
          -∗ run c (.op (.waitDma2 s₁ M₃ M₄ h₃ h₄) K) Q) := by
  unfold lane9 lane10
  iintro ⟨#Hf, ⟨Hs, Hr, H⟩, Ho⟩ Hk
  iapply (send_wait m c d k n s₁ hs₁ hN₁) $$ [Hs Ho]
  · isplitr; · iexact Hf
    isplitl [Hs] <;> iassumption
  iintro ⟨Hs, Hv, Ho⟩
  iapply Hk
  isplitr [Ho]
  · isplitl [Hs]; · iexact Hs
    isplitl [Hv]; · iexact Hv
    isplitl [Hr] <;> iassumption
  · iexact Ho

end Wait

end Run

end Cert.KernelIdeal.Exchange
-- ==== Proof.Ideal.Final.lean ====
/-
# The result's rows

A chunk of 512 rows is finished from the two halves of its columns: their last sums, the root of the mean square over
both, the scale. Both halves are staged in a slot, and the slot is copied to the result.
-/
module

public import proofs.«01_k».proof.Proof.Ideal.Lanes
public import Idealize.ShloMosaic.Lib.ValueLayout
public import Idealize.ShloMosaic.Lib.Pipeline.ValueKit.Geometry

@[expose] public section

noncomputable section

namespace Cert.KernelIdeal.Exchange

open Cert.KernelIdeal Cert.KernelIdeal.Gen

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]
local notation "𝕄" => MT nD τ sig ℕ (Elt F) ℕ UU ℕ

variable (m : (ℓ : Loc nD τ sig) → Buf (Elt F) ℓ)

/-! ## Two halves of a slot -/

theorem half_inb (p h : Fin 2) : ∀ a, (![p.val, 0, 1024 * h.val] : Fin 3 → ℕ) a + S1x512x1024.size a ≤ S2x512x2048.size a := by
  revert p h; decide
/-- The left (`0`) or right (`1`) columns of slot `p`. -/
abbrev halfR (p h : Fin 2) : Rect S2x512x2048 :=
  Rect.unit (s := S2x512x2048) ![p.val, 0, 1024 * h.val] S1x512x1024.size (half_inb p h)
theorem gam_inb (h : Fin 2) : ∀ a, (![1024 * h.val] : Fin 1 → ℕ) a + S1024.size a ≤ S2048.size a := by revert h; decide
/-- The left or right half of the scale. -/
abbrev gamR (h : Fin 2) : Rect S2048 := Rect.unit (s := S2048) ![1024 * h.val] S1024.size (gam_inb h)

/-- Two halves side by side. -/
def glue {α : Type} (l r : S1x512x1024.Idx → α) : S512x2048.Idx → α := fun i =>
  if h : (i 1).val < 1024 then l (ix3 (0 : Fin 1) (⟨(i 0).val, (i 0).isLt⟩ : Fin 512) (⟨(i 1).val, h⟩ : Fin 1024))
  else r (ix3 (0 : Fin 1) (⟨(i 0).val, (i 0).isLt⟩ : Fin 512)
    (⟨(i 1).val - 1024, by have h' : (i 1).val < 2048 := (i 1).isLt; omega⟩ : Fin 1024))

theorem stage_place (p h : Fin 2) (i : S512x2048.Idx) (x : Fin 1024) (hx : (i 1).val = 1024 * h.val + x.val)
    (hn : S512x2048.numel = S1x512x2048.numel) :
    (stageR p).emb (Shape.reshapeEquiv hn i)
      = (halfR p h).emb (ix3 (0 : Fin 1) (⟨(i 0).val, (i 0).isLt⟩ : Fin 512) x) := by
  have hi : Shape.reshapeEquiv hn i = ix3 (⟨0, Nat.one_pos⟩ : Fin 1) (⟨(i 0).val, (i 0).isLt⟩ : Fin 512) (⟨(i 1).val, (i 1).isLt⟩ : Fin 2048) :=
    (congrArg (Shape.reshapeEquiv hn) (eq_ix2 (n0 := 512) (n1 := 2048) i)).trans (reshapeEquiv_ix2_1ab hn _ _)
  rw [hi]
  funext a
  refine Fin.ext ?_
  refine (ValueKit.rect_emb_unit_val _ _ _ _ a).trans (Eq.trans ?_ (ValueKit.rect_emb_unit_val _ _ _ _ a).symm)
  match a with
  | ⟨0, _⟩ => rfl
  | ⟨1, _⟩ => rfl
  | ⟨2, _⟩ => show 0 + (i 1).val = 1024 * h.val + x.val; omega

/-- Both halves stored, the slot reads as the two side by side. -/
theorem stage_read (p : Fin 2) (f : stageM.view.ty.Contents (Elt F)) (l r : S1x512x1024.Idx → Elt F .f32) :
    (stageK p).view.read (Elt F) ((stageM.access (halfR p 1)).write (Elt F) ((stageM.access (halfR p 0)).write (Elt F) f l Finset.univ) r Finset.univ)
      = glue l r := by
  funext i
  change stageM.view.read (Elt F) ((stageM.view.slice (halfR p 1)).write (Elt F) ((stageM.view.slice (halfR p 0)).write (Elt F) f l Finset.univ) r Finset.univ)
    ((stageR p).emb (Shape.reshapeEquiv (squeezes_S1x512x2048_S512x2048.numel_eq) i)) = glue l r i
  unfold glue
  by_cases h : (i 1).val < 1024
  · rw [dif_pos h, stage_place p 0 i ⟨(i 1).val, h⟩ (by show _ = 1024 * 0 + (i 1).val; omega),
      View.read_slice_write_of_not_mem, View.read_slice_write_emb _ _ _ (Finset.mem_univ _)]
    rw [Rect.map_emb_univ, LoadRect.mem_set]
    intro hm
    obtain ⟨j, hj, e⟩ := hm 2
    have e' := (ValueKit.rect_emb_unit_val (s := S2x512x2048) ![p.val, 0, 1024 * (0 : Fin 2).val] S1x512x1024.size (half_inb p 0)
      (ix3 (0 : Fin 1) (⟨(i 0).val, (i 0).isLt⟩ : Fin 512) (⟨(i 1).val, h⟩ : Fin 1024)) 2).symm.trans e
    change 1024 * 0 + (i 1).val = 1024 * 1 + 1 * j at e'
    omega
  · have hlt : (i 1).val < 2048 := (i 1).isLt
    rw [dif_neg h, stage_place p 1 i ⟨(i 1).val - 1024, by omega⟩ (by show _ = 1024 * 1 + ((i 1).val - 1024); omega),
      View.read_slice_write_emb _ _ _ (Finset.mem_univ _)]

theorem half_sub (p h : Fin 2) : (stageM.access (halfR p h)).set ⊆ (stageK p).view.set := by
  intro y hy
  rw [Memref.set_view_squeeze]
  change y ∈ (stageM.view.slice (halfR p h)).set at hy
  change y ∈ (stageM.view.slice (stageR p)).set
  rw [View.set_slice] at hy ⊢
  refine Finset.map_subset_map.mpr ?_ hy
  intro z hz
  rw [LoadRect.mem_set] at hz ⊢
  intro a
  obtain ⟨j, hj, e⟩ := hz a
  match a with
  | ⟨0, _⟩ => exact ⟨j, hj, e⟩
  | ⟨1, _⟩ => exact ⟨j, hj, e⟩
  | ⟨2, _⟩ =>
    change j < 1024 at hj
    change _ = 1024 * h.val + 1 * j at e
    refine ⟨1024 * h.val + j, ?_, ?_⟩
    · show _ < 2048
      have := h.isLt; omega
    · show _ = 0 + 1 * (1024 * h.val + j)
      omega

/-! ## A chunk of the result -/

/-- Chunk `k` of the result on device `c`, from the partial sums and the arrivals of the last hop. -/
def outRow (c : Dev nD) (k : Fin 4) (g : S2048.Idx → Elt F .f32) : S512x2048.Idx → Elt F .f32 :=
  glue
    (k0_pay29 (rows k (part m c false 3)) (lift (sent m false k 2 (frm false c))) (rows k (part m c true 3)) (lift (sent m true k 2 (frm true c)))
      (fun i => g ((gamR 0).emb i)))
    (k0_pay31 (k0_pay30 (rows k (part m c false 3)) (lift (sent m false k 2 (frm false c))) (rows k (part m c true 3)) (lift (sent m true k 2 (frm true c)))
      (fun i => g ((gamR 1).emb i))))
/-- The result of device `c`. -/
def outV (c : Dev nD) (g : S2048.Idx → Elt F .f32) : S2048x2048.Idx → Elt F .f32 := fun i =>
  outRow m c ⟨(i 0).val / 512, by have h : (i 0).val < 2048 := (i 0).isLt; omega⟩ g
    (ix2 (⟨(i 0).val % 512, Nat.mod_lt _ (by decide)⟩ : Fin 512) (⟨(i 1).val, (i 1).isLt⟩ : Fin 2048))

theorem outV_rows (c : Dev nD) (g : S2048.Idx → Elt F .f32) (k : Fin 4) (j : S512x2048.Idx) :
    outV m c g ((outR k).emb j) = outRow m c k g j := by
  have h0 : ((outR k).emb j 0 : ℕ) = 512 * k.val + (j 0).val := ValueKit.rect_emb_unit_val (s := S2048x2048) ![512 * k.val, 0] S512x2048.size (out_inb k) j 0
  have h1 : ((outR k).emb j 1 : ℕ) = 0 + (j 1).val := ValueKit.rect_emb_unit_val (s := S2048x2048) ![512 * k.val, 0] S512x2048.size (out_inb k) j 1
  have hj : (j 0).val < 512 := (j 0).isLt
  unfold outV
  have e1 : (⟨((outR k).emb j 0 : ℕ) / 512, by have h : ((outR k).emb j 0 : ℕ) < 2048 := ((outR k).emb j 0).isLt; omega⟩ : Fin 4) = k :=
    Fin.ext (by show ((outR k).emb j 0 : ℕ) / 512 = k.val; omega)
  have e2 : ix2 (⟨((outR k).emb j 0 : ℕ) % 512, Nat.mod_lt _ (by decide)⟩ : Fin 512) (⟨((outR k).emb j 1 : ℕ), ((outR k).emb j 1).isLt⟩ : Fin 2048) = j := by
    refine Eq.trans ?_ (eq_ix2 (n0 := 512) (n1 := 2048) j).symm
    funext a
    match a with
    | ⟨0, _⟩ => exact Fin.ext (by show ((outR k).emb j 0 : ℕ) % 512 = (j 0).val; omega)
    | ⟨1, _⟩ => exact Fin.ext (by show ((outR k).emb j 1 : ℕ) = (j 1).val; omega)
  rw [e1, e2]

/-- The ten accesses that finish a chunk. -/
theorem final_row (c : Dev nD) (k : Fin 4) (p : Fin 2) (g : S2048.Idx → Elt F .f32)
    {wl wr : (S512x1024.Idx → Elt F .f32) → (S1x512x1024.Idx → Elt F .bf16) → (S512x1024.Idx → Elt F .f32) → (S1x512x1024.Idx → Elt F .bf16)
      → (S1024.Idx → Elt F .f32) → S1x512x1024.Idx → Elt F .f32}
    (hl : ∀ x₀ r₀ x₁ r₁ u, wl x₀ r₀ x₁ r₁ u = k0_pay29 x₀ r₀ x₁ r₁ u) (hr : ∀ x₀ r₀ x₁ r₁ u, wr x₀ r₀ x₁ r₁ u = k0_pay31 (k0_pay30 x₀ r₀ x₁ r₁ u))
    {a₁ : (partM false).view.LoadsAt (rowR k).toLoadRect} {a₂ : (recvM false).view.LoadsAt (recvR 0 k).toLoadRect}
    {a₃ : (partM true).view.LoadsAt (rowR k).toLoadRect} {a₄ : (recvM true).view.LoadsAt (recvR 0 k).toLoadRect}
    {a₅ : gamM.view.LoadsAt (gamR 0).toLoadRect} {a₆ : stageM.view.LoadsAt (halfR p 0).toLoadRect}
    {a₇ : (stageM.access (halfR p 0)).Stores Finset.univ} {a₈ : (Finset.univ : Finset (halfR p 0).shape.Idx) = Finset.univ ∨ ∀ a, (halfR p 0).stride a = 1}
    {b₅ : gamM.view.LoadsAt (gamR 1).toLoadRect} {b₆ : stageM.view.LoadsAt (halfR p 1).toLoadRect}
    {b₇ : (stageM.access (halfR p 1)).Stores Finset.univ} {b₈ : (Finset.univ : Finset (halfR p 1).shape.Idx) = Finset.univ ∨ ∀ a, (halfR p 1).stride a = 1}
    {Q : PUnit → sProp 𝕄} {K : Kont F PUnit} :
    iprop(partAt m c false 3 ∗ partAt m c true 3 ∗ arrived m c false k 0 2 ∗ arrived m c true k 0 2
        ∗ owns (c : Thread nD τ) gamM fullShare g ∗ anyAt c (stageK p))
      ⊢ iprop(((partAt m c false 3 ∗ partAt m c true 3 ∗ arrived m c false k 0 2 ∗ arrived m c true k 0 2
              ∗ owns (c : Thread nD τ) gamM fullShare g ∗ owns (c : Thread nD τ) (stageK p) fullShare (outRow m c k g)) -∗ run c (K ⟨⟩) Q)
          -∗ run c (.op (.load (partM false) (rowR k).toLoadRect a₁) fun x₀ => .op (.load (recvM false) (recvR 0 k).toLoadRect a₂) fun r₀ =>
            .op (.load (partM true) (rowR k).toLoadRect a₃) fun x₁ => .op (.load (recvM true) (recvR 0 k).toLoadRect a₄) fun r₁ =>
            .op (.load gamM (gamR 0).toLoadRect a₅) fun u => .op (.load stageM (halfR p 0).toLoadRect a₆) fun _ =>
            .op (.store stageM (halfR p 0) (wl x₀ r₀ x₁ r₁ u) Finset.univ a₇ a₈) fun _ =>
            .op (.load gamM (gamR 1).toLoadRect b₅) fun v => .op (.load stageM (halfR p 1).toLoadRect b₆) fun _ =>
            .op (.store stageM (halfR p 1) (wr x₀ r₀ x₁ r₁ v) Finset.univ b₇ b₈) K) Q) := by
  iintro ⟨Hx, Hy, Hr, Hs, Hg, Ht⟩ Hk
  iapply (load_whole c) $$ Hx
  iintro Hx
  iapply (load_recv c false 0 k) $$ Hr
  iintro Hr
  iapply (load_whole c) $$ Hy
  iintro Hy
  iapply (load_recv c true 0 k) $$ Hs
  iintro Hs
  iapply (load_whole c) $$ Hg
  iintro Hg
  unfold anyAt
  icases Ht with ⟨%f, Ht⟩
  iapply (wp_load_rect 𝒱₀ (c : Thread nD τ) none Set.univ (half_sub p 0)) $$ Ht
  iintro Ht
  iapply (wp_store 𝒱₀ (c : Thread nD τ) none Set.univ (half_sub p 0)) $$ Ht
  iintro Ht
  iapply (load_whole c) $$ Hg
  iintro Hg
  iapply (wp_load_rect 𝒱₀ (c : Thread nD τ) none Set.univ (half_sub p 1)) $$ Ht
  iintro Ht
  iapply (wp_store 𝒱₀ (c : Thread nD τ) none Set.univ (half_sub p 1)) $$ Ht
  iintro Ht
  iapply Hk
  isplitl [Hx]; · iexact Hx
  isplitl [Hy]; · iexact Hy
  isplitl [Hr]; · iexact Hr
  isplitl [Hs]; · iexact Hs
  isplitl [Hg]; · iexact Hg
  unfold owns
  iexists _
  isplitr
  rotate_left
  · iexact Ht
  · ipureintro
    rw [hl, hr]
    exact stage_read p f _ _

/-! ## Copying it out -/

/-- Chunk `k` on its way from slot `p` to the result. -/
def copying (c : Dev nD) (k : Fin 4) (p : Fin 2) (X : S512x2048.Idx → Elt F .f32) : sProp 𝕄 :=
  Flight EC (c : Thread nD τ) (.dma (outS p)) 0 ((outK k).view.dmaCredit)
    iprop(owns (c : Thread nD τ) (outK k) fullShare X ∗ anyAt c (stageK p))

theorem out_start (c : Dev nD) (k : Fin 4) (p : Fin 2) (X : S512x2048.Idx → Elt F .f32) (sm : DmaSem sig) (hsm : sm = outS p)
    {h₁ : (stageK p).view.WordExact} {h₂ : (outK k).view.WordExact} {h₃ : DmaTarget.Typed (nD := nD) (p := .tc) .vmem (.dma sm) (.here (outK k))}
    {Q : PUnit → sProp 𝕄} {K : Kont F PUnit} :
    iprop(owns (c : Thread nD τ) (stageK p) fullShare X ∗ anyAt c (outK k) ∗ semVal ((c : Thread nD τ), .dma (outS p)) 0)
      ⊢ iprop((copying c k p X -∗ run c (K ⟨⟩) Q)
          -∗ run c (.op (.enqueueDma (stageK p) (.here (outK k)) (.dma sm) h₁ h₂ h₃) K) Q) := by
  subst hsm
  iintro ⟨Hs, Hd, Hv⟩ Hk
  ihave Hs := owns_open c $$ Hs
  icases Hs with ⟨%fs, %hfs, Hs⟩
  unfold anyAt
  icases Hd with ⟨%fd, Hd⟩
  iapply (wp_dmaLocal EC 𝒱₀ (c : Thread nD τ) none 0 ((outK k).view.dmaCredit) rfl (View.dmaCredit_pos _ (by decide)) (subset_refl _)
    (src := stageK p) (dst := outK k) (fd := fd)) $$ [Hs Hd Hv]
  · isplitl [Hs]; · iexact Hs
    isplitl [Hd] <;> iassumption
  iintro Hf
  iapply Hk
  unfold copying
  iapply (Flight_mono EC (c : Thread nD τ) ?_) $$ Hf
  iintro ⟨Hd, Hs⟩
  isplitl [Hd]
  · unfold owns
    iexists _
    isplitr
    rotate_left
    · iexact Hd
    · ipureintro; rw [hfs]; exact View.read_write_univ _ _
  · unfold anyAt; iexists fs; iexact Hs

theorem out_wait (c : Dev nD) (k : Fin 4) (p : Fin 2) (n : ℕ) (X : S512x2048.Idx → Elt F .f32) (sm : DmaSem sig) (hsm : sm = outS p)
    {sp sp' : Space} {s₁ s₂ : Shape} {e₁ e₂ : EltTy} {M₁ : Memref sig .tc sp s₁ e₁} {M₂ : Memref sig .tc sp' s₂ e₂}
    (hN : M₂.view.dmaCredit = (outK k).view.dmaCredit)
    {h₁ : M₁.view.WordExact} {h₂ : M₂.view.WordExact} {Q : PUnit → sProp 𝕄} {K : Kont F PUnit} :
    iprop(facts m ∗ copying c k p X ∗ owing c n)
      ⊢ iprop(((owns (c : Thread nD τ) (outK k) fullShare X ∗ anyAt c (stageK p) ∗ semVal ((c : Thread nD τ), .dma (outS p)) 0 ∗ owing c n) -∗ run c (K ⟨⟩) Q)
          -∗ run c (.op (.waitDma2 sm M₁ M₂ h₁ h₂) K) Q) := by
  subst hsm
  iintro ⟨#Hfacts, Hf, Ho⟩ Hk
  unfold copying owing
  icases Ho with ⟨%W, Ho⟩
  iapply (wp_waitLocalO EC 𝒱₀ (c : Thread nD τ) none 0 hN) $$ [Hf Ho]
  · isplitl [Hf]; · iexact Hf
    isplitl [Ho]; · iexact Ho
    iapply (mayWait_own c (outS p) (role_out p) n)
    iapply (facts_lev m); iexact Hfacts
  iintro ⟨⟨Hp, Hs⟩, Hv, Ho⟩
  iapply Hk
  isplitl [Hp]; · iexact Hp
  isplitl [Hs]; · iexact Hs
  isplitl [Hv]; · iexact Hv
  iexists _; iexact Ho

end Cert.KernelIdeal.Exchange
-- ==== Proof.Ideal.Hops.lean ====
/-
# A hop of a lane

The steps of a lane that follow one another without interruption, and the device's pieces sorted by lane.
-/
module

public import proofs.«01_k».proof.Proof.Ideal.Final

@[expose] public section

noncomputable section

namespace Cert.KernelIdeal.Exchange

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]
local notation "𝕄" => MT nD τ sig ℕ (Elt F) ℕ UU ℕ

variable (m : (ℓ : Loc nD τ sig) → Buf (Elt F) ℓ)

theorem bigSep_four (f : Fin 4 → sProp 𝕄) : BI.bigSep Finset.univ f = iprop(f 0 ∗ f 1 ∗ f 2 ∗ f 3) := by
  rw [bigSep_univ_eq_bigSepL [0, 1, 2, 3] (by decide) (by decide), bigSepL_cons_cons, bigSepL_cons_cons, bigSepL_cons_cons, bigSepL_singleton]
  rfl

/-- A lane before the first hop, the neighbour's receive buffer in hand. -/
def laneA (c : Dev nD) (d : Bool) (k : Fin 4) : sProp 𝕄 := iprop(lane0 c d k ∗ room c d k 0 ∗ room c d k 1)
/-- … after it. -/
def laneB (c : Dev nD) (d : Bool) (k : Fin 4) : sProp 𝕄 := iprop(lane2 c d k ∗ room c d k 1)

theorem rooms (c : Dev nD) (d : Bool) :
    (recvAny (tgt d c) d : sProp 𝕄) ⊢ BI.bigSep Finset.univ fun k : Fin 4 => iprop(room c d k 0 ∗ room c d k 1) := by
  have h : (recvAny (tgt d c) d : sProp 𝕄)
      = BI.bigSep Finset.univ fun σ : Fin 2 => BI.bigSep Finset.univ fun k : Fin 4 => room c d k σ := bigSep_univ_prod _
  rw [h, bigSep_univ_eq_bigSepL [0, 1] (by decide) (by decide), bigSepL_cons_cons, bigSepL_singleton, bigSep_sep']
  exact BI.Entails.refl _

theorem lanes_ready (c : Dev nD) (d : Bool) :
    iprop((BI.bigSep Finset.univ fun k : Fin 4 => lane0 (F := F) c d k) ∗ recvAny (tgt d c) d)
      ⊢ iprop(laneA c d 0 ∗ laneA c d 1 ∗ laneA c d 2 ∗ laneA c d 3) := by
  rw [← bigSep_four (fun k => laneA c d k)]
  unfold laneA
  rw [bigSep_sep']
  iintro ⟨H, Hr⟩
  isplitl [H]; · iexact H
  iapply (rooms c d); iexact Hr

theorem slots_join (x : Dev nD) (d : Bool) :
    iprop(free (F := F) d 0 x ∗ free d 1 x ∗ free d 2 x ∗ free d 3 x) ⊢ slotFree x d := by
  rw [← bigSep_four (fun k => free d k x)]
  exact BI.Entails.refl _
theorem slots_split (x : Dev nD) (d : Bool) :
    slotFree x d ⊢ iprop(free (F := F) d 0 x ∗ free d 1 x ∗ free d 2 x ∗ free d 3 x) := by
  rw [← bigSep_four (fun k => free d k x)]
  exact BI.Entails.refl _

section Hops
variable (c : Dev nD) (d : Bool) (k : Fin 4) (x : Dev nD) (n n' : ℕ) (s₁ s₂ s₃ s₄ : DmaSem sig)
  {sp₁ sp₂ sp₃ sp₄ : Space} {t₁ t₂ t₃ t₄ : Shape} {e₁ e₂ e₃ e₄ : EltTy}
  {M₁ : Memref sig .tc sp₁ t₁ e₁} {M₂ : Memref sig .tc sp₂ t₂ e₂} {M₃ : Memref sig .tc sp₃ t₃ e₃} {M₄ : Memref sig .tc sp₄ t₄ e₄}
  {g₁ : M₁.view.WordExact} {g₂ : M₂.view.WordExact} {g₃ : M₃.view.WordExact} {g₄ : M₄.view.WordExact}
  {a₁ : (partM d).view.LoadsAt (rowR k).toLoadRect} {a₂ : (sendM d).view.LoadsAt (rowR k).toLoadRect}
  {a₃ : ((sendM d).access (rowR k)).Stores Finset.univ} {a₄ : (Finset.univ : Finset (rowR k).shape.Idx) = Finset.univ ∨ ∀ a, (rowR k).stride a = 1}
  {h₁ : (sendK d k).view.WordExact}

/-- The first hop of a lane. -/
theorem hop_first {w : (S512x1024.Idx → Elt F .f32) → S512x1024.Idx → Elt F .bf16} (hw : ∀ x, w x = k0_pay1 x)
    (hx : x = tgt d c) (hs₁ : s₁ = sendS d k) (hs₂ : s₂ = recvS d 0 k)
    (hO : owe c n = owe c n' + tallyAt (rcCell (tgt d c) d 0 k) 0 ((recvK d 0 k).view.dmaCredit))
    {hsc : (recvK d 0 k : Memref sig (Dev.tc x : Thread nD τ).2.kind .vmem S512x1024 .bf16).view.ref.isScScratch = false}
    {h₂ : (recvK d 0 k).view.WordExact}
    {h₃ : DmaTarget.Typed .vmem (.dma s₂) (.remote (Dev.tc x : Thread nD τ) (recvK d 0 k) (.dma s₁) hsc)}
    {Q : PUnit → sProp 𝕄} {K : Kont F PUnit} :
    iprop(facts m ∗ partAt m c d 0 ∗ laneA c d k ∗ owing c n)
      ⊢ iprop(((partAt m c d 0 ∗ laneB c d k ∗ owing c n') -∗ run c (K ⟨⟩) Q)
          -∗ run c (.op (.load (partM d) (rowR k).toLoadRect a₁) fun v => .op (.load (sendM d) (rowR k).toLoadRect a₂) fun _ =>
              .op (.store (sendM d) (rowR k) (w v) Finset.univ a₃ a₄) fun _ =>
              .op (.enqueueDma (sendK d k) (.remote (Dev.tc x : Thread nD τ) (recvK d 0 k) (.dma s₁) hsc) (.dma s₂) h₁ h₂ h₃) K) Q) := by
  unfold laneA laneB
  iintro ⟨#Hf, Hp, ⟨Hl, Hr, Hr'⟩, Ho⟩ Hk
  iapply (lane_fill m c d k hw) $$ [Hp Hl]
  · isplitl [Hp] <;> iassumption
  iintro ⟨Hp, Hl⟩
  iapply (lane_send0 m c d k x n n' s₁ s₂ hx hs₁ hs₂ hO) $$ [Hl Hr Ho]
  · isplitr; · iexact Hf
    isplitl [Hl]; · iexact Hl
    isplitl [Hr] <;> iassumption
  iintro ⟨Hl, Ho⟩
  iapply Hk
  isplitl [Hp]; · iexact Hp
  isplitr [Ho]
  · isplitl [Hl] <;> iassumption
  · iexact Ho

/-- The second hop of a lane. -/
theorem hop_second {w : (S512x1024.Idx → Elt F .f32) → (S1x512x1024.Idx → Elt F .bf16) → S512x1024.Idx → Elt F .bf16}
    (hw : ∀ x r, w x r = k0_pay9 x r)
    (hx : x = tgt d c) (hs₁ : s₁ = sendS d k) (hs₂ : s₂ = recvS d 1 k) (hs₃ : s₃ = recvS d 0 k) (hs₄ : s₄ = sendS d k)
    (hlev : ∀ t ∈ dues.drop n, level (.rc d 0 k) 0 < level t.role t.hop)
    (hN₂ : M₂.view.dmaCredit = (recvK d 0 k).view.dmaCredit) (hN₁ : M₄.view.dmaCredit = (sendK d k).view.dmaCredit)
    (hO : owe c n = owe c n' + tallyAt (rcCell (tgt d c) d 1 k) 1 ((recvK d 1 k).view.dmaCredit))
    {a₀ : (recvM d).view.LoadsAt (recvR 0 k).toLoadRect}
    {hsc : (recvK d 1 k : Memref sig (Dev.tc x : Thread nD τ).2.kind .vmem S512x1024 .bf16).view.ref.isScScratch = false}
    {h₂ : (recvK d 1 k).view.WordExact}
    {h₃ : DmaTarget.Typed .vmem (.dma s₂) (.remote (Dev.tc x : Thread nD τ) (recvK d 1 k) (.dma s₁) hsc)}
    {Q : PUnit → sProp 𝕄} {K : Kont F PUnit} :
    iprop(facts m ∗ partAt m c d 1 ∗ laneB c d k ∗ owing c n)
      ⊢ iprop(((partAt m c d 1 ∗ lane5 c d k ∗ free d k c ∗ owing c n') -∗ run c (K ⟨⟩) Q)
          -∗ run c (.op (.waitDma2 s₃ M₁ M₂ g₁ g₂) fun _ => .op (.waitDma2 s₄ M₃ M₄ g₃ g₄) fun _ =>
              .op (.load (partM d) (rowR k).toLoadRect a₁) fun v => .op (.load (recvM d) (recvR 0 k).toLoadRect a₀) fun r =>
              .op (.load (sendM d) (rowR k).toLoadRect a₂) fun _ => .op (.store (sendM d) (rowR k) (w v r) Finset.univ a₃ a₄) fun _ =>
              .op (.enqueueDma (sendK d k) (.remote (Dev.tc x : Thread nD τ) (recvK d 1 k) (.dma s₁) hsc) (.dma s₂) h₁ h₂ h₃) K) Q) := by
  unfold laneB
  iintro ⟨#Hf, Hp, ⟨Hl, Hr⟩, Ho⟩ Hk
  iapply (lane_take0 m c d k n s₄ s₃ hs₃ hs₄ hlev hN₂ hN₁) $$ [Hl Ho]
  · isplitr; · iexact Hf
    isplitl [Hl] <;> iassumption
  iintro ⟨Hl, Ho⟩
  iapply (lane_add1 m c d k hw) $$ [Hp Hl]
  · isplitl [Hp] <;> iassumption
  iintro ⟨Hp, Hl, Hfree⟩
  iapply (lane_send1 m c d k x n n' s₁ s₂ hx hs₁ hs₂ hO) $$ [Hl Hr Ho]
  · isplitr; · iexact Hf
    isplitl [Hl]; · iexact Hl
    isplitl [Hr] <;> iassumption
  iintro ⟨Hl, Ho⟩
  iapply Hk
  isplitl [Hp]; · iexact Hp
  isplitl [Hl]; · iexact Hl
  isplitl [Hfree] <;> iassumption

/-- The second hop's last chunk: before it goes, slot 0 is given back. -/
theorem hop_second_last {w : (S512x1024.Idx → Elt F .f32) → (S1x512x1024.Idx → Elt F .bf16) → S512x1024.Idx → Elt F .bf16}
    (hw : ∀ x r, w x r = k0_pay9 x r)
    (y : Dev nD) (n₁ : ℕ) (s₅ : Sem sig) (i : ℤ) (hi : i = ((1 : ℕ) : ℤ)) (hy : y = frm d c) (hs₅ : s₅ = credS d)
    (hO₁ : owe c n = owe c n₁ + tallyAt (crCell (frm d c) d) 0 1)
    (hx : x = tgt d c) (hs₁ : s₁ = sendS d 3) (hs₂ : s₂ = recvS d 1 3) (hs₃ : s₃ = recvS d 0 3) (hs₄ : s₄ = sendS d 3)
    (hlev : ∀ t ∈ dues.drop n, level (.rc d 0 3) 0 < level t.role t.hop)
    (hN₂ : M₂.view.dmaCredit = (recvK d 0 3).view.dmaCredit) (hN₁ : M₄.view.dmaCredit = (sendK d 3).view.dmaCredit)
    (hO : owe c n₁ = owe c n' + tallyAt (rcCell (tgt d c) d 1 3) 1 ((recvK d 1 3).view.dmaCredit))
    {a₁ : (partM d).view.LoadsAt (rowR 3).toLoadRect} {a₂ : (sendM d).view.LoadsAt (rowR 3).toLoadRect}
    {a₃ : ((sendM d).access (rowR 3)).Stores Finset.univ} {a₄ : (Finset.univ : Finset (rowR 3).shape.Idx) = Finset.univ ∨ ∀ a, (rowR 3).stride a = 1}
    {h₁ : (sendK d 3).view.WordExact}
    {a₀ : (recvM d).view.LoadsAt (recvR 0 3).toLoadRect}
    {hsc : (recvK d 1 3 : Memref sig (Dev.tc x : Thread nD τ).2.kind .vmem S512x1024 .bf16).view.ref.isScScratch = false}
    {h₂ : (recvK d 1 3).view.WordExact}
    {h₃ : DmaTarget.Typed .vmem (.dma s₂) (.remote (Dev.tc x : Thread nD τ) (recvK d 1 3) (.dma s₁) hsc)}
    {Q : PUnit → sProp 𝕄} {K : Kont F PUnit} :
    iprop(facts m ∗ partAt m c d 1 ∗ laneB c d 3 ∗ (free d 0 c ∗ free d 1 c ∗ free d 2 c) ∗ dutyTok ER (crCell (frm d c) d) 0 false ∗ owing c n)
      ⊢ iprop(((partAt m c d 1 ∗ lane5 c d 3 ∗ owing c n') -∗ run c (K ⟨⟩) Q)
          -∗ run c (.op (.waitDma2 s₃ M₁ M₂ g₁ g₂) fun _ => .op (.waitDma2 s₄ M₃ M₄ g₃ g₄) fun _ =>
              .op (.load (partM d) (rowR 3).toLoadRect a₁) fun v => .op (.load (recvM d) (recvR 0 3).toLoadRect a₀) fun r =>
              .op (.load (sendM d) (rowR 3).toLoadRect a₂) fun _ => .op (.store (sendM d) (rowR 3) (w v r) Finset.univ a₃ a₄) fun _ =>
              .op (.semSignal (y, .tc) s₅ i) fun _ =>
              .op (.enqueueDma (sendK d 3) (.remote (Dev.tc x : Thread nD τ) (recvK d 1 3) (.dma s₁) hsc) (.dma s₂) h₁ h₂ h₃) K) Q) := by
  unfold laneB
  iintro ⟨#Hf, Hp, ⟨Hl, Hr⟩, ⟨H0, H1, H2⟩, Ht, Ho⟩ Hk
  iapply (lane_take0 m c d 3 n s₄ s₃ hs₃ hs₄ hlev hN₂ hN₁) $$ [Hl Ho]
  · isplitr; · iexact Hf
    isplitl [Hl] <;> iassumption
  iintro ⟨Hl, Ho⟩
  iapply (lane_add1 m c d 3 hw) $$ [Hp Hl]
  · isplitl [Hp] <;> iassumption
  iintro ⟨Hp, Hl, H3⟩
  iapply (credit_signal m c y d n n₁ hy s₅ hs₅ i hi hO₁) $$ [H0 H1 H2 H3 Ht Ho]
  · isplitr; · iexact Hf
    isplitl [H0 H1 H2 H3]
    · iapply (slots_join c d)
      isplitl [H0]; · iexact H0
      isplitl [H1]; · iexact H1
      isplitl [H2] <;> iassumption
    isplitl [Ht] <;> iassumption
  iintro Ho
  iapply (lane_send1 m c d 3 x n₁ n' s₁ s₂ hx hs₁ hs₂ hO) $$ [Hl Hr Ho]
  · isplitr; · iexact Hf
    isplitl [Hl]; · iexact Hl
    isplitl [Hr] <;> iassumption
  iintro ⟨Hl, Ho⟩
  iapply Hk
  isplitl [Hp]; · iexact Hp
  isplitl [Hl] <;> iassumption

/-- The third hop of a lane, the receiver's slot 0 in hand. -/
theorem hop_third {w : (S512x1024.Idx → Elt F .f32) → (S1x512x1024.Idx → Elt F .bf16) → S512x1024.Idx → Elt F .bf16}
    (hw : ∀ x r, w x r = k0_pay9 x r)
    (hx : x = tgt d c) (hs₁ : s₁ = sendS d k) (hs₂ : s₂ = recvS d 0 k) (hs₃ : s₃ = recvS d 1 k) (hs₄ : s₄ = sendS d k)
    (hlev : ∀ t ∈ dues.drop n, level (.rc d 1 k) 1 < level t.role t.hop)
    (hN₂ : M₂.view.dmaCredit = (recvK d 1 k).view.dmaCredit) (hN₁ : M₄.view.dmaCredit = (sendK d k).view.dmaCredit)
    (hO : owe c n = owe c n' + tallyAt (rcCell (tgt d c) d 0 k) 2 ((recvK d 0 k).view.dmaCredit))
    {a₀ : (recvM d).view.LoadsAt (recvR 1 k).toLoadRect}
    {hsc : (recvK d 0 k : Memref sig (Dev.tc x : Thread nD τ).2.kind .vmem S512x1024 .bf16).view.ref.isScScratch = false}
    {h₂ : (recvK d 0 k).view.WordExact}
    {h₃ : DmaTarget.Typed .vmem (.dma s₂) (.remote (Dev.tc x : Thread nD τ) (recvK d 0 k) (.dma s₁) hsc)}
    {Q : PUnit → sProp 𝕄} {K : Kont F PUnit} :
    iprop(facts m ∗ partAt m c d 2 ∗ lane5 c d k ∗ free d k (tgt d c) ∗ owing c n)
      ⊢ iprop(((partAt m c d 2 ∗ lane8 c d k ∗ owing c n') -∗ run c (K ⟨⟩) Q)
          -∗ run c (.op (.waitDma2 s₃ M₁ M₂ g₁ g₂) fun _ => .op (.waitDma2 s₄ M₃ M₄ g₃ g₄) fun _ =>
              .op (.load (partM d) (rowR k).toLoadRect a₁) fun v => .op (.load (recvM d) (recvR 1 k).toLoadRect a₀) fun r =>
              .op (.load (sendM d) (rowR k).toLoadRect a₂) fun _ => .op (.store (sendM d) (rowR k) (w v r) Finset.univ a₃ a₄) fun _ =>
              .op (.enqueueDma (sendK d k) (.remote (Dev.tc x : Thread nD τ) (recvK d 0 k) (.dma s₁) hsc) (.dma s₂) h₁ h₂ h₃) K) Q) := by
  iintro ⟨#Hf, Hp, Hl, Hr, Ho⟩ Hk
  iapply (lane_take1 m c d k n s₄ s₃ hs₃ hs₄ hlev hN₂ hN₁) $$ [Hl Ho]
  · isplitr; · iexact Hf
    isplitl [Hl] <;> iassumption
  iintro ⟨Hl, Ho⟩
  iapply (lane_add2 m c d k hw) $$ [Hp Hl]
  · isplitl [Hp] <;> iassumption
  iintro ⟨Hp, Hl⟩
  iapply (lane_send2 m c d k x n n' s₁ s₂ hx hs₁ hs₂ hO) $$ [Hl Hr Ho]
  · isplitr; · iexact Hf
    isplitl [Hl]; · iexact Hl
    isplitl [Hr] <;> iassumption
  iintro ⟨Hl, Ho⟩
  iapply Hk
  isplitl [Hp]; · iexact Hp
  isplitl [Hl] <;> iassumption

/-- The third hop's first chunk: it waits for the receiver's slot 0. -/
theorem hop_third_first {w : (S512x1024.Idx → Elt F .f32) → (S1x512x1024.Idx → Elt F .bf16) → S512x1024.Idx → Elt F .bf16}
    (hw : ∀ x r, w x r = k0_pay9 x r)
    (s₅ : Sem sig) (i : ℤ) (hi : i = ((1 : ℕ) : ℤ)) (hs₅ : s₅ = credS d)
    (hlev₁ : ∀ t ∈ dues.drop n, level (.cr d) 0 < level t.role t.hop)
    (hx : x = tgt d c) (hs₁ : s₁ = sendS d 0) (hs₂ : s₂ = recvS d 0 0) (hs₃ : s₃ = recvS d 1 0) (hs₄ : s₄ = sendS d 0)
    (hlev : ∀ t ∈ dues.drop n, level (.rc d 1 0) 1 < level t.role t.hop)
    (hN₂ : M₂.view.dmaCredit = (recvK d 1 0).view.dmaCredit) (hN₁ : M₄.view.dmaCredit = (sendK d 0).view.dmaCredit)
    (hO : owe c n = owe c n' + tallyAt (rcCell (tgt d c) d 0 0) 2 ((recvK d 0 0).view.dmaCredit))
    {a₁ : (partM d).view.LoadsAt (rowR 0).toLoadRect} {a₂ : (sendM d).view.LoadsAt (rowR 0).toLoadRect}
    {a₃ : ((sendM d).access (rowR 0)).Stores Finset.univ} {a₄ : (Finset.univ : Finset (rowR 0).shape.Idx) = Finset.univ ∨ ∀ a, (rowR 0).stride a = 1}
    {h₁ : (sendK d 0).view.WordExact}
    {a₀ : (recvM d).view.LoadsAt (recvR 1 0).toLoadRect}
    {hsc : (recvK d 0 0 : Memref sig (Dev.tc x : Thread nD τ).2.kind .vmem S512x1024 .bf16).view.ref.isScScratch = false}
    {h₂ : (recvK d 0 0).view.WordExact}
    {h₃ : DmaTarget.Typed .vmem (.dma s₂) (.remote (Dev.tc x : Thread nD τ) (recvK d 0 0) (.dma s₁) hsc)}
    {Q : PUnit → sProp 𝕄} {K : Kont F PUnit} :
    iprop(facts m ∗ partAt m c d 2 ∗ lane5 c d 0 ∗ cred (tallyAt (crCell c d) 0 1) ∗ atPos ER (crCell c d) 0 ∅ 0 ∗ owing c n)
      ⊢ iprop(((partAt m c d 2 ∗ lane8 c d 0 ∗ (free d 1 (tgt d c) ∗ free d 2 (tgt d c) ∗ free d 3 (tgt d c)) ∗ atPos ER (crCell c d) 1 ∅ 0 ∗ owing c n')
            -∗ run c (K ⟨⟩) Q)
          -∗ run c (.op (.waitDma2 s₃ M₁ M₂ g₁ g₂) fun _ => .op (.waitDma2 s₄ M₃ M₄ g₃ g₄) fun _ =>
              .op (.load (partM d) (rowR 0).toLoadRect a₁) fun v => .op (.load (recvM d) (recvR 1 0).toLoadRect a₀) fun r =>
              .op (.load (sendM d) (rowR 0).toLoadRect a₂) fun _ => .op (.store (sendM d) (rowR 0) (w v r) Finset.univ a₃ a₄) fun _ =>
              .op (.semWait s₅ i) fun _ =>
              .op (.enqueueDma (sendK d 0) (.remote (Dev.tc x : Thread nD τ) (recvK d 0 0) (.dma s₁) hsc) (.dma s₂) h₁ h₂ h₃) K) Q) := by
  iintro ⟨#Hf, Hp, Hl, Hc, Hat, Ho⟩ Hk
  iapply (lane_take1 m c d 0 n s₄ s₃ hs₃ hs₄ hlev hN₂ hN₁) $$ [Hl Ho]
  · isplitr; · iexact Hf
    isplitl [Hl] <;> iassumption
  iintro ⟨Hl, Ho⟩
  iapply (lane_add2 m c d 0 hw) $$ [Hp Hl]
  · isplitl [Hp] <;> iassumption
  iintro ⟨Hp, Hl⟩
  iapply (credit_wait m c d n s₅ hs₅ i hi hlev₁) $$ [Hc Hat Ho]
  · isplitr; · iexact Hf
    isplitl [Hc]; · iexact Hc
    isplitl [Hat] <;> iassumption
  iintro ⟨Hs, Hat, Ho⟩
  ihave Hs := slots_split (tgt d c) d $$ Hs
  icases Hs with ⟨H0, H1, H2, H3⟩
  iapply (lane_send2 m c d 0 x n n' s₁ s₂ hx hs₁ hs₂ hO) $$ [Hl H0 Ho]
  · isplitr; · iexact Hf
    isplitl [Hl]; · iexact Hl
    isplitl [H0] <;> iassumption
  iintro ⟨Hl, Ho⟩
  iapply Hk
  isplitl [Hp]; · iexact Hp
  isplitl [Hl]; · iexact Hl
  isplitl [H1 H2 H3]
  · isplitl [H1]; · iexact H1
    isplitl [H2] <;> iassumption
  isplitl [Hat] <;> iassumption

end Hops

end Cert.KernelIdeal.Exchange
-- ==== Proof.Ideal.Body.lean ====
/-
# The body of one device

The whole body, run once at a symbolic device: fetches, three hops of four chunks in two directions, the final rows,
the copies to the result, the last waits.
-/
module

public import proofs.«01_k».proof.Proof.Ideal.Hops

@[expose] public section

noncomputable section

namespace Cert.KernelIdeal.Exchange

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]
local notation "𝕄" => MT nD τ sig ℕ (Elt F) ℕ UU ℕ

variable (m : (ℓ : Loc nD τ sig) → Buf (Elt F) ℓ)

theorem curry3 {A B C D : sProp 𝕄} (h : iprop(A ∗ B ∗ C) ⊢ D) : A ⊢ iprop(B -∗ C -∗ D) := by
  iintro HA HB HC
  iapply h
  isplitl [HA]; · iexact HA
  isplitl [HB] <;> iassumption
theorem curry4 {A B C D E : sProp 𝕄} (h : iprop(A ∗ B ∗ C ∗ D) ⊢ E) : A ⊢ iprop(B -∗ C -∗ D -∗ E) := by
  iintro HA HB
  iapply (curry3 (A := iprop(A ∗ B)) fun a ha => h a (BI.sep_assoc a ha))
  isplitl [HA] <;> iassumption

theorem curry5 {A B C D E G : sProp 𝕄} (h : iprop(A ∗ B ∗ C ∗ D ∗ E) ⊢ G) : A ⊢ iprop(B -∗ C -∗ D -∗ E -∗ G) := by
  iintro HA HB
  iapply (curry4 (A := iprop(A ∗ B)) fun a ha => h a (BI.sep_assoc a ha))
  isplitl [HA] <;> iassumption
theorem curry6 {A B C D E G H : sProp 𝕄} (h : iprop(A ∗ B ∗ C ∗ D ∗ E ∗ G) ⊢ H) : A ⊢ iprop(B -∗ C -∗ D -∗ E -∗ G -∗ H) := by
  iintro HA HB
  iapply (curry5 (A := iprop(A ∗ B)) fun a ha => h a (BI.sep_assoc a ha))
  isplitl [HA] <;> iassumption

theorem four_split (P : Fin 4 → sProp 𝕄) : (BI.bigSep Finset.univ P) ⊢ iprop(P 0 ∗ P 1 ∗ P 2 ∗ P 3) := by
  rw [bigSep_four]
theorem four_join (P : Fin 4 → sProp 𝕄) : iprop(P 0 ∗ P 1 ∗ P 2 ∗ P 3) ⊢ BI.bigSep Finset.univ P := by
  rw [bigSep_four]

theorem part_any (c : Dev nD) (d : Bool) (s : ℕ) : partAt m c d s ⊢ anyAt c (partM d) := owns_any c

/-- The share of the argument that direction `d` reads under. -/
def half (d : Bool) : PosShare TreeShare := if d then fullShare.right else fullShare.left

/-- What a device brings for one direction. -/
def dirPre (c : Dev nD) (d : Bool) : sProp 𝕄 :=
  iprop(argAt m c (half d) ∗ anyAt c (partM d) ∗ semVal ((c : Thread nD τ), .dma (loadS d)) 0
    ∗ recvAny c d ∗ dutyTok ER (barCell (frm d c)) 0 d
    ∗ dutyTok ER (crCell (frm d c) d) 0 false ∗ cred (tallyAt (crCell c d) 0 1) ∗ atPos ER (crCell c d) 0 ∅ 0
    ∗ BI.bigSep Finset.univ fun k : Fin 4 => lane0 c d k)
/-- What it has at the end. -/
def dirPost (c : Dev nD) (d : Bool) : sProp 𝕄 :=
  iprop(argAt m c (half d) ∗ anyAt c (partM d) ∗ semVal ((c : Thread nD τ), .dma (loadS d)) 0
    ∗ atPos ER (crCell c d) 1 ∅ 0
    ∗ BI.bigSep Finset.univ fun k : Fin 4 => iprop(lane10 c d k ∗ anyAt c (recvK d 0 k)))
/-- Everything the body starts from, the scale being `g`. -/
def bodyPre (c : Dev nD) (g : S2048.Idx → Elt F .f32) : sProp 𝕄 :=
  iprop(facts m ∗ owing c 0 ∗ dirPre m c false ∗ dirPre m c true
    ∗ cred (tallyAt (barCell c) 0 2) ∗ atPos ER (barCell c) 0 ∅ 0
    ∗ owns (c : Thread nD τ) gamM fullShare g ∗ anyAt c (stageK 0) ∗ anyAt c (stageK 1)
    ∗ semVal ((c : Thread nD τ), .dma (outS 0)) 0 ∗ semVal ((c : Thread nD τ), .dma (outS 1)) 0
    ∗ BI.bigSep Finset.univ fun k : Fin 4 => anyAt c (outK k))
/-- Everything it ends with. -/
def bodyPost (c : Dev nD) (g : S2048.Idx → Elt F .f32) : sProp 𝕄 :=
  iprop(owing c 28 ∗ dirPost m c false ∗ dirPost m c true ∗ atPos ER (barCell c) 1 ∅ 0
    ∗ owns (c : Thread nD τ) gamM fullShare g ∗ anyAt c (stageK 0) ∗ anyAt c (stageK 1)
    ∗ semVal ((c : Thread nD τ), .dma (outS 0)) 0 ∗ semVal ((c : Thread nD τ), .dma (outS 1)) 0
    ∗ BI.bigSep Finset.univ fun k : Fin 4 => owns (c : Thread nD τ) (outK k) fullShare (outRow m c k g))

/-- The end of one direction: its resources put together again. -/
theorem dir_end (c : Dev nD) (d : Bool) :
    iprop((argAt m c (half d) ∗ partAt m c d 3 ∗ semVal ((c : Thread nD τ), .dma (loadS d)) 0 ∗ atPos ER (crCell c d) 1 ∅ 0)
      ∗ (lane10 c d 0 ∗ arrived m c d 0 0 2) ∗ (lane10 c d 1 ∗ arrived m c d 1 0 2)
      ∗ (lane10 c d 2 ∗ arrived m c d 2 0 2) ∗ (lane10 c d 3 ∗ arrived m c d 3 0 2)) ⊢ dirPost m c d := by
  have h : ∀ k, iprop(lane10 c d k ∗ arrived m c d k 0 2) ⊢ iprop(lane10 c d k ∗ anyAt c (recvK d 0 k)) := fun k => by
    iintro ⟨Hl, Ha⟩
    isplitl [Hl]; · iexact Hl
    iapply (owns_any c); iexact Ha
  unfold dirPost
  iintro ⟨⟨Ha, Hp, Hw, Hat⟩, H0, H1, H2, H3⟩
  isplitl [Ha]; · iexact Ha
  isplitl [Hp]; · iapply (part_any m c d 3); iexact Hp
  isplitl [Hw]; · iexact Hw
  isplitl [Hat]; · iexact Hat
  iapply (four_join fun k : Fin 4 => iprop(lane10 c d k ∗ anyAt c (recvK d 0 k)))
  isplitl [H0]; · iapply (h 0); iexact H0
  isplitl [H1]; · iapply (h 1); iexact H1
  isplitl [H2]; · iapply (h 2); iexact H2
  iapply (h 3); iexact H3

/-- The body of device `c`. -/
abbrev body : Prog (TpuEff nD τ sig (Elt F) Λ₀ .tc) PUnit :=
  cc0_body (Memref.whole main_arg0) (Memref.isWhole_whole _) (Memref.whole cc0_stg0_0) (Memref.isWhole_whole _) (Memref.whole main_v1) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _)
    cc0_scratch7 cc0_scratch8 cc0_scratch9 cc0_scratch10 cc0_scratch11 cc0_scratch12 cc0_scratch13 cc0_scratch14

set_option maxRecDepth 20000 in
set_option maxHeartbeats 8000000 in
/-- The body, from `bodyPre` to `bodyPost`. -/
theorem body_runs (c : Dev nD) (g : S2048.Idx → Elt F .f32) {Q : PUnit → sProp 𝕄} :
    iprop(bodyPre m c g ∗ (bodyPost m c g -∗ |={Set.univ}=> Q ⟨⟩)) ⊢ run c body Q := by
  unfold run body
  simp only [cc0_body_eq_skeleton]; unfold cc0_body_skel
  simp only [k0_part39_eq_skeleton]; unfold k0_part39_skel
  simp only [k0_part1_eq_skeleton, k0_part2_eq_skeleton, k0_part3_eq_skeleton,
    k0_part4_eq_skeleton, k0_part5_eq_skeleton, k0_part6_eq_skeleton, k0_part7_eq_skeleton]; simp only [k0_part1_skel, k0_part2_skel, k0_part3_skel,
    k0_part4_skel, k0_part5_skel, k0_part6_skel, k0_part7_skel]
  simp only [semSignalWord, semWaitWord, Prog.lift, Prog.bind_op, Prog.bind_ret, Prog.pure_eq_ret, Prog.bind_assoc, wp_deviceId]
  unfold bodyPre dirPre
  iintro ⟨⟨#Hf, Ho, ⟨Ha, Hp, Hw, Hrv, Htb, Htc, Hcc, Hatc, HL⟩, ⟨Ha', Hp', Hw', Hrv', Htb', Htc', Hcc', Hatc', HL'⟩,
    Hcb, Hatb, Hg, Hs0, Hs1, Hz0, Hz1, Hout⟩, Hk⟩
  iapply (curry4 (bar_signal m c ⟨k0_dev1 c, k0_dev1_lt c⟩ false 0 1 (by revert c; decide) _ rfl _ rfl rfl)) $$ Hf Hrv Htb Ho
  iintro Ho
  iapply (curry4 (bar_signal m c ⟨k0_dev2 c, k0_dev2_lt c⟩ true 1 2 (by revert c; decide) _ rfl _ rfl rfl)) $$ Hf Hrv' Htb' Ho
  iintro Ho
  iapply (curry3 (fetch_start m c false 0 (half false) _ rfl)) $$ Ha Hp Hw
  iintro Hx
  iapply (curry3 (fetch_start m c true 0 (half true) _ rfl)) $$ Ha' Hp' Hw'
  iintro Hx'
  iapply (curry4 (bar_wait m c 2 _ rfl _ rfl (by decide))) $$ Hf Hcb Hatb Ho
  iintro ⟨Hrv, Hrv', Hatb, Ho⟩
  ihave HL := (lanes_ready c false) $$ [HL Hrv]
  · isplitl [HL] <;> iassumption
  icases HL with ⟨R0, R1, R2, R3⟩
  ihave HL' := (lanes_ready c true) $$ [HL' Hrv']
  · isplitl [HL'] <;> iassumption
  icases HL' with ⟨L0, L1, L2, L3⟩
  iapply (curry3 (fetch_wait m c false 0 2 (half false) _ rfl rfl)) $$ Hf Hx Ho
  iintro ⟨Ha, Hp, Hw, Ho⟩
  iapply (curry4 (hop_first m c false 0 ⟨k0_dev3 c, k0_dev3_lt c⟩ 2 3 _ _ (fun _ => rfl) (by revert c; decide) rfl rfl rfl)) $$ Hf Hp R0 Ho
  iintro ⟨Hp, R0, Ho⟩
  iapply (curry3 (fetch_wait m c true 0 3 (half true) _ rfl rfl)) $$ Hf Hx' Ho
  iintro ⟨Ha', Hp', Hw', Ho⟩
  iapply (curry4 (hop_first m c true 0 ⟨k0_dev4 c, k0_dev4_lt c⟩ 3 4 _ _ (fun _ => rfl) (by revert c; decide) rfl rfl rfl)) $$ Hf Hp' L0 Ho
  iintro ⟨Hp', L0, Ho⟩
  iapply (curry4 (hop_first m c false 1 ⟨k0_dev5 c, k0_dev5_lt c⟩ 4 5 _ _ (fun _ => rfl) (by revert c; decide) rfl rfl rfl)) $$ Hf Hp R1 Ho
  iintro ⟨Hp, R1, Ho⟩
  iapply (curry4 (hop_first m c true 1 ⟨k0_dev6 c, k0_dev6_lt c⟩ 5 6 _ _ (fun _ => rfl) (by revert c; decide) rfl rfl rfl)) $$ Hf Hp' L1 Ho
  iintro ⟨Hp', L1, Ho⟩
  iapply (curry4 (hop_first m c false 2 ⟨k0_dev7 c, k0_dev7_lt c⟩ 6 7 _ _ (fun _ => rfl) (by revert c; decide) rfl rfl rfl)) $$ Hf Hp R2 Ho
  iintro ⟨Hp, R2, Ho⟩
  iapply (curry4 (hop_first m c true 2 ⟨k0_dev8 c, k0_dev8_lt c⟩ 7 8 _ _ (fun _ => rfl) (by revert c; decide) rfl rfl rfl)) $$ Hf Hp' L2 Ho
  iintro ⟨Hp', L2, Ho⟩
  iapply (curry4 (hop_first m c false 3 ⟨k0_dev9 c, k0_dev9_lt c⟩ 8 9 _ _ (fun _ => rfl) (by revert c; decide) rfl rfl rfl)) $$ Hf Hp R3 Ho
  iintro ⟨Hp, R3, Ho⟩
  iapply (curry4 (hop_first m c true 3 ⟨k0_dev10 c, k0_dev10_lt c⟩ 9 10 _ _ (fun _ => rfl) (by revert c; decide) rfl rfl rfl)) $$ Hf Hp' L3 Ho
  iintro ⟨Hp', L3, Ho⟩
  simp only [k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  simp only [k0_part8_skel, k0_part9_skel, k0_part10_skel, k0_part11_skel, k0_part12_skel, k0_part13_skel, k0_part14_skel, k0_part15_skel, k0_part16_skel, k0_part17_skel, k0_part18_skel]
  simp only [semSignalWord, semWaitWord, Prog.lift, Prog.bind_op, Prog.bind_ret, Prog.pure_eq_ret, Prog.bind_assoc]
  ihave Hp := (part_any m c false 0) $$ Hp
  iapply (curry3 (fetch_start m c false 1 (half false) _ rfl)) $$ Ha Hp Hw
  iintro Hx
  ihave Hp' := (part_any m c true 0) $$ Hp'
  iapply (curry3 (fetch_start m c true 1 (half true) _ rfl)) $$ Ha' Hp' Hw'
  iintro Hx'
  iapply (curry3 (fetch_wait m c false 1 10 (half false) _ rfl rfl)) $$ Hf Hx Ho
  iintro ⟨Ha, Hp, Hw, Ho⟩
  iapply (curry4 (hop_second m c false 0 ⟨k0_dev11 c, k0_dev11_lt c⟩ 10 11 _ _ _ _ (fun _ _ => rfl) (by revert c; decide) rfl rfl rfl rfl (by decide) rfl rfl rfl)) $$ Hf Hp R0 Ho
  iintro ⟨Hp, R0, F0, Ho⟩
  iapply (curry3 (fetch_wait m c true 1 11 (half true) _ rfl rfl)) $$ Hf Hx' Ho
  iintro ⟨Ha', Hp', Hw', Ho⟩
  iapply (curry4 (hop_second m c true 0 ⟨k0_dev12 c, k0_dev12_lt c⟩ 11 12 _ _ _ _ (fun _ _ => rfl) (by revert c; decide) rfl rfl rfl rfl (by decide) rfl rfl rfl)) $$ Hf Hp' L0 Ho
  iintro ⟨Hp', L0, F0', Ho⟩
  iapply (curry4 (hop_second m c false 1 ⟨k0_dev13 c, k0_dev13_lt c⟩ 12 13 _ _ _ _ (fun _ _ => rfl) (by revert c; decide) rfl rfl rfl rfl (by decide) rfl rfl rfl)) $$ Hf Hp R1 Ho
  iintro ⟨Hp, R1, F1, Ho⟩
  iapply (curry4 (hop_second m c true 1 ⟨k0_dev14 c, k0_dev14_lt c⟩ 13 14 _ _ _ _ (fun _ _ => rfl) (by revert c; decide) rfl rfl rfl rfl (by decide) rfl rfl rfl)) $$ Hf Hp' L1 Ho
  iintro ⟨Hp', L1, F1', Ho⟩
  iapply (curry4 (hop_second m c false 2 ⟨k0_dev15 c, k0_dev15_lt c⟩ 14 15 _ _ _ _ (fun _ _ => rfl) (by revert c; decide) rfl rfl rfl rfl (by decide) rfl rfl rfl)) $$ Hf Hp R2 Ho
  iintro ⟨Hp, R2, F2, Ho⟩
  iapply (curry4 (hop_second m c true 2 ⟨k0_dev16 c, k0_dev16_lt c⟩ 15 16 _ _ _ _ (fun _ _ => rfl) (by revert c; decide) rfl rfl rfl rfl (by decide) rfl rfl rfl)) $$ Hf Hp' L2 Ho
  iintro ⟨Hp', L2, F2', Ho⟩
  iapply (curry6 (hop_second_last m c false ⟨k0_dev18 c, k0_dev18_lt c⟩ 16 18 _ _ _ _ (fun _ _ => rfl) ⟨k0_dev17 c, k0_dev17_lt c⟩ 17 _ _ rfl (by revert c; decide) rfl rfl
      (by revert c; decide) rfl rfl rfl rfl (by decide) rfl rfl rfl)) $$ Hf Hp R3 [F0 F1 F2] Htc Ho
  · isplitl [F0]; · iexact F0
    isplitl [F1] <;> iassumption
  iintro ⟨Hp, R3, Ho⟩
  iapply (curry6 (hop_second_last m c true ⟨k0_dev20 c, k0_dev20_lt c⟩ 18 20 _ _ _ _ (fun _ _ => rfl) ⟨k0_dev19 c, k0_dev19_lt c⟩ 19 _ _ rfl (by revert c; decide) rfl rfl
      (by revert c; decide) rfl rfl rfl rfl (by decide) rfl rfl rfl)) $$ Hf Hp' L3 [F0' F1' F2'] Htc' Ho
  · isplitl [F0']; · iexact F0'
    isplitl [F1'] <;> iassumption
  iintro ⟨Hp', L3, Ho⟩
  simp only [k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
  simp only [k0_part19_skel, k0_part20_skel, k0_part21_skel, k0_part22_skel, k0_part23_skel, k0_part24_skel, k0_part25_skel, k0_part26_skel, k0_part27_skel, k0_part28_skel]
  simp only [semSignalWord, semWaitWord, Prog.lift, Prog.bind_op, Prog.bind_ret, Prog.pure_eq_ret, Prog.bind_assoc]
  ihave Hp := (part_any m c false 1) $$ Hp
  iapply (curry3 (fetch_start m c false 2 (half false) _ rfl)) $$ Ha Hp Hw
  iintro Hx
  ihave Hp' := (part_any m c true 1) $$ Hp'
  iapply (curry3 (fetch_start m c true 2 (half true) _ rfl)) $$ Ha' Hp' Hw'
  iintro Hx'
  iapply (curry3 (fetch_wait m c false 2 20 (half false) _ rfl rfl)) $$ Hf Hx Ho
  iintro ⟨Ha, Hp, Hw, Ho⟩
  iapply (curry6 (hop_third_first m c false ⟨k0_dev21 c, k0_dev21_lt c⟩ 20 21 _ _ _ _ (fun _ _ => rfl) _ _ rfl rfl (by decide)
      (by revert c; decide) rfl rfl rfl rfl (by decide) rfl rfl rfl)) $$ Hf Hp R0 Hcc Hatc Ho
  iintro ⟨Hp, R0, ⟨F1, F2, F3⟩, Hatc, Ho⟩
  iapply (curry3 (fetch_wait m c true 2 21 (half true) _ rfl rfl)) $$ Hf Hx' Ho
  iintro ⟨Ha', Hp', Hw', Ho⟩
  iapply (curry6 (hop_third_first m c true ⟨k0_dev22 c, k0_dev22_lt c⟩ 21 22 _ _ _ _ (fun _ _ => rfl) _ _ rfl rfl (by decide)
      (by revert c; decide) rfl rfl rfl rfl (by decide) rfl rfl rfl)) $$ Hf Hp' L0 Hcc' Hatc' Ho
  iintro ⟨Hp', L0, ⟨F1', F2', F3'⟩, Hatc', Ho⟩
  iapply (curry5 (hop_third m c false 1 ⟨k0_dev23 c, k0_dev23_lt c⟩ 22 23 _ _ _ _ (fun _ _ => rfl) (by revert c; decide) rfl rfl rfl rfl (by decide) rfl rfl rfl)) $$ Hf Hp R1 F1 Ho
  iintro ⟨Hp, R1, Ho⟩
  iapply (curry5 (hop_third m c true 1 ⟨k0_dev24 c, k0_dev24_lt c⟩ 23 24 _ _ _ _ (fun _ _ => rfl) (by revert c; decide) rfl rfl rfl rfl (by decide) rfl rfl rfl)) $$ Hf Hp' L1 F1' Ho
  iintro ⟨Hp', L1, Ho⟩
  iapply (curry5 (hop_third m c false 2 ⟨k0_dev25 c, k0_dev25_lt c⟩ 24 25 _ _ _ _ (fun _ _ => rfl) (by revert c; decide) rfl rfl rfl rfl (by decide) rfl rfl rfl)) $$ Hf Hp R2 F2 Ho
  iintro ⟨Hp, R2, Ho⟩
  iapply (curry5 (hop_third m c true 2 ⟨k0_dev26 c, k0_dev26_lt c⟩ 25 26 _ _ _ _ (fun _ _ => rfl) (by revert c; decide) rfl rfl rfl rfl (by decide) rfl rfl rfl)) $$ Hf Hp' L2 F2' Ho
  iintro ⟨Hp', L2, Ho⟩
  iapply (curry5 (hop_third m c false 3 ⟨k0_dev27 c, k0_dev27_lt c⟩ 26 27 _ _ _ _ (fun _ _ => rfl) (by revert c; decide) rfl rfl rfl rfl (by decide) rfl rfl rfl)) $$ Hf Hp R3 F3 Ho
  iintro ⟨Hp, R3, Ho⟩
  iapply (curry5 (hop_third m c true 3 ⟨k0_dev28 c, k0_dev28_lt c⟩ 27 28 _ _ _ _ (fun _ _ => rfl) (by revert c; decide) rfl rfl rfl rfl (by decide) rfl rfl rfl)) $$ Hf Hp' L3 F3' Ho
  iintro ⟨Hp', L3, Ho⟩
  simp only [k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton]
  simp only [k0_part29_skel, k0_part30_skel, k0_part31_skel, k0_part32_skel, k0_part33_skel, k0_part34_skel, k0_part35_skel, k0_part36_skel, k0_part37_skel, k0_part38_skel]
  simp only [semSignalWord, semWaitWord, Prog.lift, Prog.bind_op, Prog.bind_ret, Prog.pure_eq_ret, Prog.bind_assoc]
  ihave Hp := (part_any m c false 2) $$ Hp
  iapply (curry3 (fetch_start m c false 3 (half false) _ rfl)) $$ Ha Hp Hw
  iintro Hx
  ihave Hp' := (part_any m c true 2) $$ Hp'
  iapply (curry3 (fetch_start m c true 3 (half true) _ rfl)) $$ Ha' Hp' Hw'
  iintro Hx'
  ihave Hout := (four_split fun k : Fin 4 => anyAt c (outK k)) $$ Hout
  icases Hout with ⟨O0, O1, O2, O3⟩
  iapply (curry3 (fetch_wait m c false 3 28 (half false) _ rfl rfl)) $$ Hf Hx Ho
  iintro ⟨Ha, Hp, Hw, Ho⟩
  iapply (curry3 (lane_take2 m c false 0 28 _ rfl (by decide) rfl)) $$ Hf R0 Ho
  iintro ⟨R0, A0, Ho⟩
  iapply (curry3 (fetch_wait m c true 3 28 (half true) _ rfl rfl)) $$ Hf Hx' Ho
  iintro ⟨Ha', Hp', Hw', Ho⟩
  iapply (curry3 (lane_take2 m c true 0 28 _ rfl (by decide) rfl)) $$ Hf L0 Ho
  iintro ⟨L0, A0', Ho⟩
  iapply (curry6 (final_row m c 0 0 g (fun _ _ _ _ _ => rfl) (fun _ _ _ _ _ => rfl))) $$ Hp Hp' A0 A0' Hg Hs0
  iintro ⟨Hp, Hp', A0, A0', Hg, Hs0⟩
  iapply (curry3 (out_start c 0 0 _ _ rfl)) $$ Hs0 O0 Hz0
  iintro Hz0
  iapply (curry3 (lane_take2 m c false 1 28 _ rfl (by decide) rfl)) $$ Hf R1 Ho
  iintro ⟨R1, A1, Ho⟩
  iapply (curry3 (lane_take2 m c true 1 28 _ rfl (by decide) rfl)) $$ Hf L1 Ho
  iintro ⟨L1, A1', Ho⟩
  iapply (curry6 (final_row m c 1 1 g (fun _ _ _ _ _ => rfl) (fun _ _ _ _ _ => rfl))) $$ Hp Hp' A1 A1' Hg Hs1
  iintro ⟨Hp, Hp', A1, A1', Hg, Hs1⟩
  iapply (curry3 (out_start c 1 1 _ _ rfl)) $$ Hs1 O1 Hz1
  iintro Hz1
  iapply (curry3 (lane_take2 m c false 2 28 _ rfl (by decide) rfl)) $$ Hf R2 Ho
  iintro ⟨R2, A2, Ho⟩
  iapply (curry3 (lane_take2 m c true 2 28 _ rfl (by decide) rfl)) $$ Hf L2 Ho
  iintro ⟨L2, A2', Ho⟩
  iapply (curry3 (out_wait m c 0 0 28 _ _ rfl rfl)) $$ Hf Hz0 Ho
  iintro ⟨O0, Hs0, Hz0, Ho⟩
  iapply (curry6 (final_row m c 2 0 g (fun _ _ _ _ _ => rfl) (fun _ _ _ _ _ => rfl))) $$ Hp Hp' A2 A2' Hg Hs0
  iintro ⟨Hp, Hp', A2, A2', Hg, Hs0⟩
  iapply (curry3 (out_start c 2 0 _ _ rfl)) $$ Hs0 O2 Hz0
  iintro Hz0
  iapply (curry3 (lane_take2 m c false 3 28 _ rfl (by decide) rfl)) $$ Hf R3 Ho
  iintro ⟨R3, A3, Ho⟩
  iapply (curry3 (lane_take2 m c true 3 28 _ rfl (by decide) rfl)) $$ Hf L3 Ho
  iintro ⟨L3, A3', Ho⟩
  iapply (curry3 (out_wait m c 1 1 28 _ _ rfl rfl)) $$ Hf Hz1 Ho
  iintro ⟨O1, Hs1, Hz1, Ho⟩
  iapply (curry6 (final_row m c 3 1 g (fun _ _ _ _ _ => rfl) (fun _ _ _ _ _ => rfl))) $$ Hp Hp' A3 A3' Hg Hs1
  iintro ⟨Hp, Hp', A3, A3', Hg, Hs1⟩
  iapply (curry3 (out_start c 3 1 _ _ rfl)) $$ Hs1 O3 Hz1
  iintro Hz1
  iapply (curry3 (out_wait m c 2 0 28 _ _ rfl rfl)) $$ Hf Hz0 Ho
  iintro ⟨O2, Hs0, Hz0, Ho⟩
  iapply (curry3 (out_wait m c 3 1 28 _ _ rfl rfl)) $$ Hf Hz1 Ho
  iintro ⟨O3, Hs1, Hz1, Ho⟩
  iapply (curry3 (lane_drain m c false 0 28 _ rfl rfl)) $$ Hf R0 Ho
  iintro ⟨R0, Ho⟩
  iapply (curry3 (lane_drain m c false 1 28 _ rfl rfl)) $$ Hf R1 Ho
  iintro ⟨R1, Ho⟩
  iapply (curry3 (lane_drain m c false 2 28 _ rfl rfl)) $$ Hf R2 Ho
  iintro ⟨R2, Ho⟩
  iapply (curry3 (lane_drain m c false 3 28 _ rfl rfl)) $$ Hf R3 Ho
  iintro ⟨R3, Ho⟩
  iapply (curry3 (lane_drain m c true 0 28 _ rfl rfl)) $$ Hf L0 Ho
  iintro ⟨L0, Ho⟩
  iapply (curry3 (lane_drain m c true 1 28 _ rfl rfl)) $$ Hf L1 Ho
  iintro ⟨L1, Ho⟩
  iapply (curry3 (lane_drain m c true 2 28 _ rfl rfl)) $$ Hf L2 Ho
  iintro ⟨L2, Ho⟩
  iapply (curry3 (lane_drain m c true 3 28 _ rfl rfl)) $$ Hf L3 Ho
  iintro ⟨L3, Ho⟩
  unfold run; rw [wp_ret]
  iapply Hk
  unfold bodyPost
  isplitl [Ho]; · iexact Ho
  isplitl [Ha Hp Hw Hatc R0 A0 R1 A1 R2 A2 R3 A3]
  · iapply (dir_end m c false)
    isplitl [Ha Hp Hw Hatc]
    · isplitl [Ha]; · iexact Ha
      isplitl [Hp]; · iexact Hp
      isplitl [Hw] <;> iassumption
    isplitl [R0 A0]; · isplitl [R0] <;> iassumption
    isplitl [R1 A1]; · isplitl [R1] <;> iassumption
    isplitl [R2 A2]; · isplitl [R2] <;> iassumption
    isplitl [R3] <;> iassumption
  isplitl [Ha' Hp' Hw' Hatc' L0 A0' L1 A1' L2 A2' L3 A3']
  · iapply (dir_end m c true)
    isplitl [Ha' Hp' Hw' Hatc']
    · isplitl [Ha']; · iexact Ha'
      isplitl [Hp']; · iexact Hp'
      isplitl [Hw'] <;> iassumption
    isplitl [L0 A0']; · isplitl [L0] <;> iassumption
    isplitl [L1 A1']; · isplitl [L1] <;> iassumption
    isplitl [L2 A2']; · isplitl [L2] <;> iassumption
    isplitl [L3] <;> iassumption
  isplitl [Hatb]; · iexact Hatb
  isplitl [Hg]; · iexact Hg
  isplitl [Hs0]; · iexact Hs0
  isplitl [Hs1]; · iexact Hs1
  isplitl [Hz0]; · iexact Hz0
  isplitl [Hz1]; · iexact Hz1
  iapply (four_join fun k : Fin 4 => owns (c : Thread nD τ) (outK k) fullShare (outRow m c k g))
  isplitl [O0]; · iexact O0
  isplitl [O1]; · iexact O1
  isplitl [O2] <;> iassumption

end Cert.KernelIdeal.Exchange
-- ==== Proof.Ideal.Ends.lean ====
/-
# The two ends of the body

What a device holds when the launch reaches its body, sorted into what the body asks for; and what the body leaves,
sorted back, with the semaphores that other devices raised closed at zero.
-/
module

public import proofs.«01_k».proof.Proof.Ideal.Body

@[expose] public section

noncomputable section

namespace Cert.KernelIdeal.Exchange

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]
local notation "𝕄" => MT nD τ sig ℕ (Elt F) ℕ UU ℕ

variable (m : (ℓ : Loc nD τ sig) → Buf (Elt F) ℓ)

/-! ## Buffers as blocks -/

theorem any_rects (c : Dev nD) {sp : Space} {s : Shape} {e : EltTy} (M : Memref sig .tc sp s e) {T : Type} [Fintype T] [DecidableEq T]
    (r : T → Rect s) (hr : ∀ t a, (r t).stride a = 1) (hd : ∀ t t', t ≠ t' → Disjoint (r t).set (r t').set)
    (hcov : (Finset.univ : Finset T).biUnion (fun t => (r t).set) = Finset.univ) :
    (anyAt c M : sProp 𝕄) ⊢ BI.bigSep Finset.univ fun t => anyAt c (M.slice (r t) (hr t)) := by
  refine (any_owns c).trans ?_
  iintro ⟨%X, H⟩
  iapply ((owns_rects (c : Thread nD τ) M fullShare r hr hd hcov X).trans (bigSep_mono fun t _ => owns_any c))
  iexact H

/-- One function agreeing with a given one on each block. -/
theorem exists_glued {s : Shape} {α : Type} [Nonempty α] {T : Type} (r : T → Rect s)
    (hd : ∀ t t', t ≠ t' → Disjoint (r t).set (r t').set) (Y : (t : T) → (r t).shape.Idx → α) :
    ∃ X : s.Idx → α, ∀ t j, X ((r t).emb j) = Y t j := by
  have hinj : Function.Injective fun p : (t : T) × (r t).shape.Idx => (r p.1).emb p.2 := by
    rintro ⟨t, j⟩ ⟨t', j'⟩ h
    have hmem : ∀ t j, (r t).emb j ∈ (r t).set := fun t j => by rw [← Rect.map_emb_univ]; exact Finset.mem_map_of_mem _ (Finset.mem_univ j)
    have ht : t = t' := by
      by_contra hne
      exact Finset.disjoint_left.mp (hd t t' hne) (hmem t j) ((show (r t).emb j = (r t').emb j' from h) ▸ hmem t' j')
    subst ht
    exact congrArg _ ((r t).emb.injective h)
  exact ⟨Function.extend (fun p : (t : T) × (r t).shape.Idx => (r p.1).emb p.2) (fun p => Y p.1 p.2) fun _ => Classical.arbitrary α,
    fun t j => hinj.extend_apply _ _ ⟨t, j⟩⟩

theorem rects_any (c : Dev nD) {sp : Space} {s : Shape} {e : EltTy} (M : Memref sig .tc sp s e) {T : Type} [Fintype T] [DecidableEq T]
    (r : T → Rect s) (hr : ∀ t a, (r t).stride a = 1) (hd : ∀ t t', t ≠ t' → Disjoint (r t).set (r t').set)
    (hcov : (Finset.univ : Finset T).biUnion (fun t => (r t).set) = Finset.univ) :
    (BI.bigSep Finset.univ fun t => anyAt c (M.slice (r t) (hr t)) : sProp 𝕄) ⊢ anyAt c M := by
  refine (bigSep_mono fun t _ => any_owns c).trans ?_
  refine (BI.bigSep_exists_pi Finset.univ (fun t Y => owns (c : Thread nD τ) (M.slice (r t) (hr t)) fullShare Y)).trans ?_
  iintro ⟨%Y, H⟩
  obtain ⟨X, hX⟩ := exists_glued r hd Y
  have e : Y = fun t j => X ((r t).emb j) := funext fun t => funext fun j => (hX t j).symm
  subst e
  iapply ((owns_of_rects (c : Thread nD τ) M fullShare r hr hd hcov X).trans (owns_any c))
  iexact H

theorem any_squeeze (c : Dev nD) {sp : Space} {s s' : Shape} {e : EltTy} (M : Memref sig .tc sp s e) (h : s.Squeezes s') :
    (anyAt c (M.squeeze s' h) : sProp 𝕄) = anyAt c M := by
  unfold anyAt; rw [Memref.set_view_squeeze]

theorem any_whole (c : Dev nD) (b : Ref sig .tc) :
    (anyAt c (Memref.whole b) : sProp 𝕄) = iprop(∃ f : Buf (Elt F) ((c : Thread nD τ).loc b), ((c : Thread nD τ).loc b) ↦{fullShare} f) := by
  unfold anyAt; rw [show (Memref.whole b).view.set = Finset.univ from View.set_whole _]

theorem rowR_disj (k k' : Fin 4) (h : k ≠ k') : Disjoint (rowR k).set (rowR k').set :=
  Rect.unit_disjoint (s := S2048x1024) 0 (by revert k k'; decide)
theorem rowR_cov : (Finset.univ : Finset (Fin 4)).biUnion (fun k => (rowR k).set) = Finset.univ := by
  refine Finset.eq_univ_of_forall fun i => Finset.mem_biUnion.mpr ⟨⟨(i 0).val / 512, ?_⟩, Finset.mem_univ _, ?_⟩
  · have : (i 0).val < 2048 := (i 0).isLt
    omega
  · rw [Rect.mem_set_unit (s := S2048x1024)]
    intro a
    have h0 : (i 0).val < 2048 := (i 0).isLt
    have h1 : (i 1).val < 1024 := (i 1).isLt
    match a with
    | 0 => show 512 * ((i 0).val / 512) ≤ (i 0).val ∧ (i 0).val < 512 * ((i 0).val / 512) + 512; omega
    | 1 => show 0 ≤ (i 1).val ∧ (i 1).val < 0 + 1024; omega
theorem outR_disj (k k' : Fin 4) (h : k ≠ k') : Disjoint (outR k).set (outR k').set :=
  Rect.unit_disjoint (s := S2048x2048) 0 (by revert k k'; decide)
theorem outR_cov : (Finset.univ : Finset (Fin 4)).biUnion (fun k => (outR k).set) = Finset.univ := by
  refine Finset.eq_univ_of_forall fun i => Finset.mem_biUnion.mpr ⟨⟨(i 0).val / 512, ?_⟩, Finset.mem_univ _, ?_⟩
  · have : (i 0).val < 2048 := (i 0).isLt
    omega
  · rw [Rect.mem_set_unit (s := S2048x2048)]
    intro a
    have h0 : (i 0).val < 2048 := (i 0).isLt
    have h1 : (i 1).val < 2048 := (i 1).isLt
    match a with
    | 0 => show 512 * ((i 0).val / 512) ≤ (i 0).val ∧ (i 0).val < 512 * ((i 0).val / 512) + 512; omega
    | 1 => show 0 ≤ (i 1).val ∧ (i 1).val < 0 + 2048; omega
theorem recvR_disj (p p' : Fin 2 × Fin 4) (h : p ≠ p') : Disjoint (recvR p.1 p.2).set (recvR p'.1 p'.2).set := by
  obtain ⟨σ, k⟩ := p
  obtain ⟨σ', k'⟩ := p'
  by_cases hσ : σ = σ'
  · have hk : k ≠ k' := fun hk => h (by rw [hσ, hk])
    exact Rect.unit_disjoint (s := S2x2048x1024) 1 (by clear h hσ; revert k k' σ σ'; decide)
  · exact Rect.unit_disjoint (s := S2x2048x1024) 0 (by clear h; revert k k' σ σ'; decide)
theorem recvR_cov : (Finset.univ : Finset (Fin 2 × Fin 4)).biUnion (fun p => (recvR p.1 p.2).set) = Finset.univ := by
  refine Finset.eq_univ_of_forall fun i => Finset.mem_biUnion.mpr ⟨(i 0, ⟨(i 1).val / 512, ?_⟩), Finset.mem_univ _, ?_⟩
  · have : (i 1).val < 2048 := (i 1).isLt
    omega
  · rw [Rect.mem_set_unit (s := S2x2048x1024)]
    intro a
    have h1 : (i 1).val < 2048 := (i 1).isLt
    have h2 : (i 2).val < 1024 := (i 2).isLt
    match a with
    | 0 => show (i 0).val ≤ (i 0).val ∧ (i 0).val < (i 0).val + 1; omega
    | 1 => show 512 * ((i 1).val / 512) ≤ (i 1).val ∧ (i 1).val < 512 * ((i 1).val / 512) + 512; omega
    | 2 => show 0 ≤ (i 2).val ∧ (i 2).val < 0 + 1024; omega
theorem stageR_disj (p p' : Fin 2) (h : p ≠ p') : Disjoint (stageR p).set (stageR p').set :=
  Rect.unit_disjoint (s := S2x512x2048) 0 (by revert p p'; decide)
theorem stageR_cov : (Finset.univ : Finset (Fin 2)).biUnion (fun p => (stageR p).set) = Finset.univ := by
  refine Finset.eq_univ_of_forall fun i => Finset.mem_biUnion.mpr ⟨i 0, Finset.mem_univ _, ?_⟩
  rw [Rect.mem_set_unit (s := S2x512x2048)]
  intro a
  have h1 : (i 1).val < 512 := (i 1).isLt
  have h2 : (i 2).val < 2048 := (i 2).isLt
  match a with
  | 0 => show (i 0).val ≤ (i 0).val ∧ (i 0).val < (i 0).val + 1; omega
  | 1 => show 0 ≤ (i 1).val ∧ (i 1).val < 0 + 512; omega
  | 2 => show 0 ≤ (i 2).val ∧ (i 2).val < 0 + 2048; omega

theorem send_eq (c : Dev nD) (d : Bool) : (anyAt c (sendM d) : sProp 𝕄) = BI.bigSep Finset.univ fun k => anyAt c (sendK d k) :=
  BI.equiv_iff.mp ⟨any_rects c (sendM d) rowR (fun _ _ => rfl) rowR_disj rowR_cov, rects_any c (sendM d) rowR (fun _ _ => rfl) rowR_disj rowR_cov⟩
theorem recv_eq (c : Dev nD) (d : Bool) : (anyAt c (recvM d) : sProp 𝕄) = recvAny c d := by
  refine (BI.equiv_iff.mp ⟨any_rects c (recvM d) (fun p : Fin 2 × Fin 4 => recvR p.1 p.2) (fun _ _ => rfl) recvR_disj recvR_cov,
    rects_any c (recvM d) (fun p : Fin 2 × Fin 4 => recvR p.1 p.2) (fun _ _ => rfl) recvR_disj recvR_cov⟩).trans ?_
  exact bigSep_congr fun p _ => (any_squeeze c _ _).symm
theorem stage_eq (c : Dev nD) : (anyAt c stageM : sProp 𝕄) = iprop(anyAt c (stageK 0) ∗ anyAt c (stageK 1)) := by
  refine (BI.equiv_iff.mp ⟨any_rects c stageM stageR (fun _ _ => rfl) stageR_disj stageR_cov,
    rects_any c stageM stageR (fun _ _ => rfl) stageR_disj stageR_cov⟩).trans ?_
  refine (bigSep_congr fun p _ => (any_squeeze c _ squeezes_S1x512x2048_S512x2048).symm).trans ?_
  exact BI.bigSep_fin_two _
theorem out_split (c : Dev nD) : (anyAt c outM : sProp 𝕄) ⊢ BI.bigSep Finset.univ fun k => anyAt c (outK k) :=
  any_rects c outM outR (fun _ _ => rfl) outR_disj outR_cov
theorem out_join (c : Dev nD) (g : S2048.Idx → Elt F .f32) :
    (BI.bigSep Finset.univ fun k => owns (c : Thread nD τ) (outK k) fullShare (outRow m c k g) : sProp 𝕄) ⊢ owns (c : Thread nD τ) outM fullShare (outV m c g) := by
  refine (Entails.of_eq (bigSep_congr fun k _ => congrArg _ (funext fun j => (outV_rows m c g k j).symm))).trans ?_
  exact owns_of_rects (c : Thread nD τ) outM fullShare outR (fun _ _ => rfl) outR_disj outR_cov (outV m c g)

theorem arg_halves (c : Dev nD) : argAt m c fullShare = iprop(argAt m c (half false) ∗ argAt m c (half true)) :=
  BI.equiv_iff.mp ⟨(pointsTo_share (PosShare.mem_left_op_right fullShare)).1, (pointsTo_share (PosShare.mem_left_op_right fullShare)).2⟩

/-- The scratch buffers. -/
theorem scratch_eq (c : Dev nD) : (Pipeline.scopedRest spec0 c : sProp 𝕄)
    = iprop(anyAt c (sendM false) ∗ anyAt c (sendM true) ∗ anyAt c (partM false) ∗ anyAt c (partM true) ∗ anyAt c (recvM false)
        ∗ anyAt c (recvM true) ∗ anyAt c stageM) := by
  rw [scopedRest0_eq]
  simp only [any_whole]

/-! ## Before the body -/

/-- What the launch deals device `c` for direction `d`. -/
def dirX (c : Dev nD) (d : Bool) : sProp 𝕄 :=
  iprop(semVal ((c : Thread nD τ), .dma (loadS d)) 0 ∗ dutyTok ER (barCell (frm d c)) 0 d ∗ dutyTok ER (crCell (frm d c) d) 0 false
    ∗ cred (tallyAt (crCell c d) 0 1) ∗ atPos ER (crCell c d) 0 ∅ 0
    ∗ BI.bigSep Finset.univ fun k : Fin 4 => iprop(sendZero c d k ∗ stand c d k 0 0 ∗ turn c d k 0 0 ∗ turn c d k 1 0 ∗ turn c d k 0 1))
/-- What the launch hands device `c`. -/
def given (c : Dev nD) : sProp 𝕄 :=
  iprop(facts m ∗ argAt m c fullShare ∗ anyAt c outM ∗ cred (tallyAt (barCell c) 0 2) ∗ atPos ER (barCell c) 0 ∅ 0
    ∗ semVal ((c : Thread nD τ), .dma (outS 0)) 0 ∗ semVal ((c : Thread nD τ), .dma (outS 1)) 0 ∗ dirX c false ∗ dirX c true)

theorem dir_entry (c : Dev nD) (d : Bool) :
    iprop(argAt m c (half d) ∗ anyAt c (sendM d) ∗ anyAt c (partM d) ∗ anyAt c (recvM d) ∗ dirX c d) ⊢ dirPre m c d := by
  rw [send_eq, recv_eq]
  unfold dirX dirPre lane0
  simp only [bigSep_sep']
  iintro ⟨Ha, Hs, Hp, Hr, Hw, Htb, Htc, Hc, Hat, Hl⟩
  isplitl [Ha]; · iexact Ha
  isplitl [Hp]; · iexact Hp
  isplitl [Hw]; · iexact Hw
  isplitl [Hr]; · iexact Hr
  isplitl [Htb]; · iexact Htb
  isplitl [Htc]; · iexact Htc
  isplitl [Hc]; · iexact Hc
  isplitl [Hat]; · iexact Hat
  isplitl [Hs] <;> iassumption

theorem body_entry (c : Dev nD) (g : S2048.Idx → Elt F .f32) :
    iprop(given m c ∗ owing c 0 ∗ owns (c : Thread nD τ) gamM fullShare g ∗ Pipeline.scopedRest spec0 c) ⊢ bodyPre m c g := by
  rw [scratch_eq, stage_eq]
  unfold given bodyPre
  rw [arg_halves]
  iintro ⟨⟨Hf, ⟨Ha, Ha'⟩, Ho, Hc, Hat, Hz0, Hz1, Hd, Hd'⟩, HO, Hg, Hs, Hs', Hp, Hp', Hr, Hr', Ht0, Ht1⟩
  isplitl [Hf]; · iexact Hf
  isplitl [HO]; · iexact HO
  isplitl [Ha Hs Hp Hr Hd]
  · iapply (dir_entry m c false)
    isplitl [Ha]; · iexact Ha
    isplitl [Hs]; · iexact Hs
    isplitl [Hp]; · iexact Hp
    isplitl [Hr] <;> iassumption
  isplitl [Ha' Hs' Hp' Hr' Hd']
  · iapply (dir_entry m c true)
    isplitl [Ha']; · iexact Ha'
    isplitl [Hs']; · iexact Hs'
    isplitl [Hp']; · iexact Hp'
    isplitl [Hr'] <;> iassumption
  isplitl [Hc]; · iexact Hc
  isplitl [Hat]; · iexact Hat
  isplitl [Hg]; · iexact Hg
  isplitl [Ht0]; · iexact Ht0
  isplitl [Ht1]; · iexact Ht1
  isplitl [Hz0]; · iexact Hz0
  isplitl [Hz1]; · iexact Hz1
  iapply (out_split c)
  iexact Ho

/-! ## After the body -/

/-- A semaphore that takes no further contribution, closed. -/
theorem close (p : Dev nD × CI) (R : ℕ) (h : rounds (roleOf (cellI p).2) ≤ R) :
    iprop(facts m ∗ atPos ER (cellI p) R ∅ 0) ⊢ iprop(|={Set.univ}=> semVal (cellI p) 0) := by
  iintro ⟨#Hf, Hat⟩
  ihave #H := (facts_cell m p) $$ Hf
  icases H with ⟨%κ, #Hi, #Hr⟩
  iapply (Rounds.cell_close ER (Rd m) (Set.mem_univ κ) (fun h => h) (duties_later m (cellI p) R h))
  isplitr [Hat] <;> iassumption

theorem close_bar (c : Dev nD) : iprop(facts m ∗ atPos ER (barCell c) 1 ∅ 0) ⊢ iprop(|={Set.univ}=> semVal (barCell c) 0) :=
  close m (c, none) 1 (Nat.le_refl 1)
theorem close_cr (c : Dev nD) (d : Bool) : iprop(facts m ∗ atPos ER (crCell c d) 1 ∅ 0) ⊢ iprop(|={Set.univ}=> semVal (crCell c d) 0) :=
  close m (c, some (d, none)) 1 (by show rounds (roleOf (.reg (credS d))) ≤ 1; rw [role_cr]; exact Nat.le_refl 1)
theorem close_rc (c : Dev nD) (d : Bool) (σ : Fin 2) (k : Fin 4) (R : ℕ) (h : 3 ≤ 2 * R + σ.val) :
    iprop(facts m ∗ atPos ER (rcCell c d σ k) R ∅ 0) ⊢ iprop(|={Set.univ}=> semVal (rcCell c d σ k) 0) :=
  close m (c, some (d, some (σ, k))) R (by
    show rounds (roleOf (.dma (recvS d σ k))) ≤ R
    rw [role_rc]
    show (if σ = 0 then 2 else 1) ≤ R
    have := σ.isLt
    split <;> rename_i hσ
    · subst hσ; have : (0 : Fin 2).val = 0 := rfl; omega
    · omega)

/-- The semaphores of direction `d`, all at zero. -/
def dirZero (c : Dev nD) (d : Bool) : sProp 𝕄 :=
  iprop(semVal ((c : Thread nD τ), .dma (loadS d)) 0 ∗ semVal (crCell c d) 0 ∗ (BI.bigSep Finset.univ fun k : Fin 4 => sendZero c d k)
    ∗ (BI.bigSep Finset.univ fun k : Fin 4 => semVal (rcCell c d 0 k) 0) ∗ BI.bigSep Finset.univ fun k : Fin 4 => semVal (rcCell c d 1 k) 0)

theorem lane_exit (c : Dev nD) (d : Bool) (k : Fin 4) :
    iprop(facts m ∗ lane10 c d k ∗ anyAt c (recvK d 0 k))
      ⊢ iprop(|={Set.univ}=> (anyAt c (sendK d k) ∗ sendZero c d k ∗ anyAt c (recvK d 0 k) ∗ anyAt c (recvK d 1 k)
          ∗ semVal (rcCell c d 0 k) 0 ∗ semVal (rcCell c d 1 k) 0)) := by
  unfold lane10 stand
  iintro ⟨#Hf, ⟨Hs, Hz, Hr1, Ha0, Ha1⟩, Hr0⟩
  imod (close_rc m c d 0 k 2 (by decide)) $$ [Ha0] with Ha0
  · isplitr [Ha0] <;> iassumption
  imod (close_rc m c d 1 k 1 (by decide)) $$ [Ha1] with Ha1
  · isplitr [Ha1] <;> iassumption
  imodintro
  isplitl [Hs]; · iexact Hs
  isplitl [Hz]; · iexact Hz
  isplitl [Hr0]; · iexact Hr0
  isplitl [Hr1]; · iexact Hr1
  isplitl [Ha0] <;> iassumption

theorem pair_join (P : Fin 2 × Fin 4 → sProp 𝕄) :
    BI.bigSep Finset.univ P = iprop((BI.bigSep Finset.univ fun k => P (0, k)) ∗ BI.bigSep Finset.univ fun k => P (1, k)) := by
  rw [bigSep_univ_prod, BI.bigSep_fin_two]; rfl

/-- A persistent fact, at every index. -/
theorem with_fact {I : Type} [DecidableEq I] (S : Finset I) (P : sProp 𝕄) [BI.Persistent P] (A B : I → sProp 𝕄) (h : ∀ i, iprop(P ∗ A i) ⊢ iprop(|={Set.univ}=> B i)) :
    iprop(P ∗ BI.bigSep S A) ⊢ iprop(|={Set.univ}=> BI.bigSep S B) := by
  have h' : BI.bigSep S (fun i => iprop(P ∗ A i)) ⊢ iprop(|={Set.univ}=> BI.bigSep S B) :=
    (bigSep_mono fun i _ => h i).trans (bigSep_fupd S B)
  have hP : P ⊢ BI.bigSep S fun _ => P := BI.bigSep_of_persistent S P
  rw [bigSep_sep'] at h'
  iintro ⟨HP, HA⟩
  iapply h'
  isplitl [HP]
  · iapply hP; iexact HP
  · iexact HA

theorem dir_exit (c : Dev nD) (d : Bool) :
    iprop(facts m ∗ dirPost m c d)
      ⊢ iprop(|={Set.univ}=> (argAt m c (half d) ∗ anyAt c (sendM d) ∗ anyAt c (partM d) ∗ anyAt c (recvM d) ∗ dirZero c d)) := by
  rw [send_eq, recv_eq, show recvAny c d = _ from pair_join _]
  unfold dirPost dirZero
  iintro ⟨#Hf, Ha, Hp, Hw, Hc, Hl⟩
  imod (close_cr m c d) $$ [Hc] with Hc
  · isplitr [Hc] <;> iassumption
  imod (with_fact Finset.univ (facts m) (fun k : Fin 4 => iprop(lane10 c d k ∗ anyAt c (recvK d 0 k)))
    (fun k => iprop(anyAt c (sendK d k) ∗ sendZero c d k ∗ anyAt c (recvK d 0 k) ∗ anyAt c (recvK d 1 k)
          ∗ semVal (rcCell c d 0 k) 0 ∗ semVal (rcCell c d 1 k) 0)) (lane_exit m c d)) $$ [Hl] with Hl
  · isplitr [Hl] <;> iassumption
  simp only [bigSep_sep']
  icases Hl with ⟨Hs, Hz, Hr0, Hr1, H0, H1⟩
  imodintro
  isplitl [Ha]; · iexact Ha
  isplitl [Hs]; · iexact Hs
  isplitl [Hp]; · iexact Hp
  isplitl [Hr0 Hr1]; · isplitl [Hr0] <;> iassumption
  isplitl [Hw]; · iexact Hw
  isplitl [Hc]; · iexact Hc
  isplitl [Hz]; · iexact Hz
  isplitl [H0] <;> iassumption

/-- What device `c` gives back. -/
def givenBack (c : Dev nD) (g : S2048.Idx → Elt F .f32) : sProp 𝕄 :=
  iprop(semVal (barCell c) 0 ∗ argAt m c fullShare ∗ owns (c : Thread nD τ) outM fullShare (outV m c g))
def allZero (c : Dev nD) : sProp 𝕄 :=
  iprop(semVal ((c : Thread nD τ), .dma (outS 0)) 0 ∗ semVal ((c : Thread nD τ), .dma (outS 1)) 0 ∗ dirZero c false ∗ dirZero c true)

theorem body_exit (c : Dev nD) (g : S2048.Idx → Elt F .f32) :
    iprop(facts m ∗ bodyPost m c g)
      ⊢ iprop(|={Set.univ}=> (owing c 28 ∗ owns (c : Thread nD τ) gamM fullShare g ∗ givenBack m c g ∗ allZero c ∗ Pipeline.scopedRest spec0 c)) := by
  rw [scratch_eq, stage_eq]
  unfold bodyPost givenBack allZero
  rw [arg_halves]
  iintro ⟨#Hf, HO, Hd, Hd', Hb, Hg, Ht0, Ht1, Hz0, Hz1, Ho⟩
  imod (dir_exit m c false) $$ [Hd] with ⟨Ha, Hs, Hp, Hr, Hd⟩
  · isplitr [Hd] <;> iassumption
  imod (dir_exit m c true) $$ [Hd'] with ⟨Ha', Hs', Hp', Hr', Hd'⟩
  · isplitr [Hd'] <;> iassumption
  imod (close_bar m c) $$ [Hb] with Hb
  · isplitr [Hb] <;> iassumption
  imodintro
  isplitl [HO]; · iexact HO
  isplitl [Hg]; · iexact Hg
  isplitl [Hb Ha Ha' Ho]
  · isplitl [Hb]; · iexact Hb
    isplitl [Ha Ha']; · isplitl [Ha] <;> iassumption
    iapply (out_join m c g); iexact Ho
  isplitl [Hz0 Hz1 Hd Hd']
  · isplitl [Hz0]; · iexact Hz0
    isplitl [Hz1]; · iexact Hz1
    isplitl [Hd] <;> iassumption
  isplitl [Hs]; · iexact Hs
  isplitl [Hs']; · iexact Hs'
  isplitl [Hp]; · iexact Hp
  isplitl [Hp']; · iexact Hp'
  isplitl [Hr]; · iexact Hr
  isplitl [Hr']; · iexact Hr'
  isplitl [Ht0] <;> iassumption

end Cert.KernelIdeal.Exchange
-- ==== Proof.Ideal.Deal.lean ====
/-
# Dealing the ghost state

At the launch every device's counters are zero. Here the cells are opened, their duty tokens are dealt to the devices
that pay them, and the launch credit is shared out among the waits.
-/
module

public import proofs.«01_k».proof.Proof.Ideal.Ends
public import Idealize.ShloMosaic.Lib.Pipeline.Kit

@[expose] public section

noncomputable section

namespace Cert.KernelIdeal.Exchange

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]
local notation "𝕄" => MT nD τ sig ℕ (Elt F) ℕ UU ℕ

variable (m : (ℓ : Loc nD τ sig) → Buf (Elt F) ℓ)

/-! ## Conjunctions over the indices -/

theorem over_option {A : Type} [Fintype A] [DecidableEq A] (P : Option A → sProp 𝕄) :
    BI.bigSep Finset.univ P = iprop(P none ∗ BI.bigSep Finset.univ fun a => P (some a)) := by
  have e : (Finset.univ : Finset (Option A)).erase none = Finset.univ.map Function.Embedding.some := by
    ext x
    cases x <;> simp
  rw [bigSep_univ_at P none, e, BI.bigSep_map]
  rfl
theorem over_bool (P : Bool → sProp 𝕄) : BI.bigSep Finset.univ P = iprop(P false ∗ P true) := by
  rw [bigSep_univ_eq_bigSepL [false, true] (by decide) (by decide), bigSepL_cons_cons, bigSepL_singleton]
  rfl
theorem over_three (P : Fin 3 → sProp 𝕄) : BI.bigSep Finset.univ P = iprop(P 0 ∗ P 1 ∗ P 2) := by
  rw [bigSep_univ_eq_bigSepL [0, 1, 2] (by decide) (by decide), bigSepL_cons_cons, bigSepL_cons_cons, bigSepL_singleton]
  rfl
/-- A conjunction over the cells of one device. -/
theorem over_cells (P : CI → sProp 𝕄) :
    BI.bigSep Finset.univ P
      = iprop(P none ∗ BI.bigSep Finset.univ fun d => iprop(P (some (d, none)) ∗ BI.bigSep Finset.univ fun p => P (some (d, some p)))) := by
  rw [over_option, bigSep_univ_prod]
  exact congrArg _ (bigSep_congr fun d _ => over_option _)

/-! ## Cells, tokens and semaphores -/

theorem role_sem (i : CI) : roleOf (semOf (roleI i)) = roleI i := by revert i; decide
theorem roleI_inj : Function.Injective roleI := by decide
theorem semI_inj : Function.Injective fun i : CI => semOf (roleI i) := fun i j h =>
  roleI_inj ((role_sem i).symm.trans ((congrArg roleOf h).trans (role_sem j)))
theorem cellI_inj : Function.Injective cellI := by
  rintro ⟨c, i⟩ ⟨c', i'⟩ h
  have hc : c = c' := congrArg (fun g : GSem nD τ sig => g.1.1) h
  have hi : i = i' := semI_inj (congrArg Prod.snd h)
  rw [hc, hi]
def cells : Finset (GSem nD τ sig) := Finset.univ.map ⟨cellI, cellI_inj⟩

/-- The contributions to one device's cells: for each direction a barrier unit, the credit, and the three arrivals of
    each chunk. -/
abbrev TI := Bool × Option (Option (Fin 4 × Fin 3))
def tokI : TI → CI × ℕ × Bool
  | (d, none) => (none, 0, d)
  | (d, some none) => (some (d, none), 0, false)
  | (d, some (some (k, 0))) => (some (d, some (0, k)), 0, false)
  | (d, some (some (k, 1))) => (some (d, some (1, k)), 0, false)
  | (d, some (some (k, 2))) => (some (d, some (0, k)), 1, false)
theorem tokI_inj : Function.Injective tokI := by decide
abbrev tokAt (p : Dev nD × TI) : GSem nD τ sig × ℕ × Bool := (cellI (p.1, (tokI p.2).1), (tokI p.2).2)
theorem tokAt_inj : Function.Injective tokAt := by
  rintro ⟨c, i⟩ ⟨c', i'⟩ h
  have h1 := cellI_inj (congrArg Prod.fst h)
  have hc : c = c' := congrArg Prod.fst h1
  have h2 : (tokI i).2 = (tokI i').2 := congrArg (fun x : GSem nD τ sig × ℕ × Bool => x.2) h
  have hi : i = i' := tokI_inj (Prod.ext (congrArg Prod.snd h1) h2)
  rw [hc, hi]
def tokens : Finset (GSem nD τ sig × ℕ × Bool) := Finset.univ.map ⟨tokAt, tokAt_inj⟩

/-- The scoped semaphores: those of the cells, the copies out, the fetches and the sends. -/
abbrev OI := (Bool × Option (Fin 2 × Fin 4)) ⊕ (Fin 2 ⊕ Bool × Option (Fin 4))
def osem : OI → SemLoc sig
  | .inl x => semOf (roleI (some x))
  | .inr (.inl p) => .dma (outS p)
  | .inr (.inr (d, none)) => .dma (loadS d)
  | .inr (.inr (d, some k)) => .dma (sendS d k)
theorem ownSemFacts : Pipeline.OwnSemFacts spec0 osem := by decide

/-- The semaphores only the device itself raises, at zero. -/
def private0 (c : Dev nD) : sProp 𝕄 :=
  iprop((semVal ((c : Thread nD τ), .dma (outS 0)) 0 ∗ semVal ((c : Thread nD τ), .dma (outS 1)) 0)
    ∗ BI.bigSep Finset.univ fun d => iprop(semVal ((c : Thread nD τ), .dma (loadS d)) 0 ∗ BI.bigSep Finset.univ fun k : Fin 4 => sendZero c d k))

theorem ownSems0_eq (c : Dev nD) : (Pipeline.ownSems0 osem c : sProp 𝕄)
    = iprop((BI.bigSep Finset.univ fun x => semVal (cellI (c, some x)) 0) ∗ private0 c) := by
  unfold Pipeline.ownSems0 private0
  have h : (BI.bigSep Finset.univ fun x : Bool × Option (Fin 4) => (semVal ((c : Thread nD τ), osem (.inr (.inr x))) 0 : sProp 𝕄))
      = BI.bigSep Finset.univ fun d => iprop(semVal ((c : Thread nD τ), .dma (loadS d)) 0 ∗ BI.bigSep Finset.univ fun k : Fin 4 => sendZero c d k) := by
    rw [bigSep_univ_prod]
    exact bigSep_congr fun d _ => over_option _
  rw [BI.bigSep_univ_sum, BI.bigSep_univ_sum, BI.bigSep_fin_two, h]
  rfl
theorem unscopedSems0_eq (c : Dev nD) : (unscopedSems0 c : sProp 𝕄) = semVal (barCell c) 0 := by
  unfold unscopedSems0
  rw [bigSep_eq_bigSepL_of_eq [SemLoc.reg barrier0] (by decide) (by decide)]
  rfl
theorem zeros_eq (c : Dev nD) : iprop((Pipeline.ownSems0 osem c : sProp 𝕄) ∗ unscopedSems0 c)
    ⊢ iprop((BI.bigSep Finset.univ fun i => semVal (cellI (c, i)) 0) ∗ private0 c) := by
  rw [ownSems0_eq, unscopedSems0_eq, over_option]
  iintro ⟨⟨Hs, Hp⟩, Hb⟩
  isplitr [Hp]
  · isplitl [Hb]
    · iexact Hb
    · iexact Hs
  · iexact Hp
theorem allZero_eq (c : Dev nD) : iprop(semVal (barCell c) 0 ∗ allZero c) ⊢ iprop((unscopedSems0 c : sProp 𝕄) ∗ Pipeline.ownSems0 osem c) := by
  rw [ownSems0_eq, unscopedSems0_eq, bigSep_univ_prod, over_bool, over_option, over_option, pair_join, pair_join]
  unfold allZero private0 dirZero
  rw [over_bool]
  iintro ⟨Hb, Hz0, Hz1, ⟨Hl, Hc, Hs, Hr0, Hr1⟩, Hl', Hc', Hs', Hr0', Hr1'⟩
  isplitl [Hb]; · iexact Hb
  isplitl [Hc Hc' Hr0 Hr1 Hr0' Hr1']
  · isplitl [Hc Hr0 Hr1]
    · isplitl [Hc]; · iexact Hc
      isplitl [Hr0]; · iexact Hr0
      iexact Hr1
    · isplitl [Hc']; · iexact Hc'
      isplitl [Hr0']; · iexact Hr0'
      iexact Hr1'
  isplitl [Hz0 Hz1]; · isplitl [Hz0] <;> iassumption
  isplitl [Hl Hs]
  · isplitl [Hl] <;> iassumption
  · isplitl [Hl'] <;> iassumption

/-! ## The tokens -/

/-- The three arrival tokens of each chunk, at the cells of device `x`. -/
def arrivals (x : Dev nD) (d : Bool) : sProp 𝕄 :=
  BI.bigSep Finset.univ fun k : Fin 4 => iprop(dutyTok ER (rcCell x d 0 k) 0 false ∗ dutyTok ER (rcCell x d 1 k) 0 false ∗ dutyTok ER (rcCell x d 0 k) 1 false)
/-- Device `c`'s tokens as they are made, -/
def made (c : Dev nD) (d : Bool) : sProp 𝕄 :=
  iprop(dutyTok ER (barCell c) 0 d ∗ dutyTok ER (crCell c d) 0 false ∗ arrivals c d)
/-- and those it pays with. -/
def paying (c : Dev nD) (d : Bool) : sProp 𝕄 :=
  iprop(dutyTok ER (barCell (frm d c)) 0 d ∗ dutyTok ER (crCell (frm d c) d) 0 false ∗ arrivals (tgt d c) d)

theorem made_paying (d : Bool) : (BI.bigSep Finset.univ fun c => made c d : sProp 𝕄) ⊢ BI.bigSep Finset.univ fun c => paying c d := by
  unfold made paying
  rw [bigSep_sep', bigSep_sep', bigSep_sep', bigSep_sep',
    bigSep_univ_equiv (ring d).symm (fun c : Dev nD => (dutyTok ER (barCell c) 0 d : sProp 𝕄)),
    bigSep_univ_equiv (ring d).symm (fun c : Dev nD => (dutyTok ER (crCell c d) 0 false : sProp 𝕄)),
    bigSep_univ_equiv (ring d) (fun c : Dev nD => (arrivals c d : sProp 𝕄))]
  exact BI.Entails.refl _

/-- What each device's cells and tokens start as, -/
def G (c : Dev nD) : sProp 𝕄 :=
  iprop((BI.bigSep Finset.univ fun i => roundState ER (Rd m) (cellI (c, i)) 0)
    ∗ ((BI.bigSep Finset.univ fun i => atPos ER (cellI (c, i)) 0 ∅ 0) ∗ BI.bigSep Finset.univ fun i => reached ER (cellI (c, i)) 0)
    ∗ made c false ∗ made c true)
/-- every cell opened, -/
def opened : sProp 𝕄 := BI.bigSep Finset.univ fun p : Dev nD × CI => iprop(∃ κ, cellInv ER (Rd m) κ (cellI p) ∗ reached ER (cellI p) 0)
instance opened_persistent : BI.Persistent (opened m) := by unfold opened; infer_instance
/-- and what each device holds once the tokens are dealt. -/
def G' (c : Dev nD) : sProp 𝕄 :=
  iprop(opened m ∗ (BI.bigSep Finset.univ fun i => atPos ER (cellI (c, i)) 0 ∅ 0) ∗ private0 c ∗ paying c false ∗ paying c true)

theorem toks_eq (c : Dev nD) : (BI.bigSep Finset.univ fun i : TI => (dutyTok ER (tokAt (c, i)).1 (tokAt (c, i)).2.1 (tokAt (c, i)).2.2 : sProp 𝕄))
    = iprop(made c false ∗ made c true) := by
  have h (d : Bool) : (BI.bigSep Finset.univ fun x : Option (Option (Fin 4 × Fin 3)) =>
      (dutyTok ER (tokAt (c, (d, x))).1 (tokAt (c, (d, x))).2.1 (tokAt (c, (d, x))).2.2 : sProp 𝕄)) = made c d := by
    unfold made arrivals
    rw [over_option, over_option, bigSep_univ_prod]
    refine congrArg _ (congrArg _ (bigSep_congr fun k _ => ?_))
    rw [over_three]
    rfl
  rw [bigSep_univ_prod, over_bool, h, h]

theorem fund : BI.own (ER (initOf cells tokens)) ⊢ (|==> BI.bigSep Finset.univ (G m) : sProp 𝕄) := by
  have hC (P : GSem nD τ sig → sProp 𝕄) : BI.bigSep cells P = BI.bigSep Finset.univ fun c : Dev nD => BI.bigSep Finset.univ fun i : CI => P (cellI (c, i)) := by
    unfold cells; rw [BI.bigSep_map, bigSep_univ_prod]; rfl
  have hT : BI.bigSep tokens (fun x => (dutyTok ER x.1 x.2.1 x.2.2 : sProp 𝕄)) = BI.bigSep Finset.univ fun c : Dev nD => iprop(made c false ∗ made c true) := by
    unfold tokens; rw [BI.bigSep_map, bigSep_univ_prod]
    exact bigSep_congr fun c _ => toks_eq c
  have hG : BI.bigSep Finset.univ (G m)
      = iprop((BI.bigSep Finset.univ fun c : Dev nD => BI.bigSep Finset.univ fun i : CI => roundState ER (Rd m) (cellI (c, i)) 0)
        ∗ ((BI.bigSep Finset.univ fun c : Dev nD => BI.bigSep Finset.univ fun i : CI => atPos ER (cellI (c, i)) 0 ∅ 0)
          ∗ BI.bigSep Finset.univ fun c : Dev nD => BI.bigSep Finset.univ fun i : CI => reached ER (cellI (c, i)) 0)
        ∗ BI.bigSep Finset.univ fun c : Dev nD => iprop(made c false ∗ made c true)) := by
    unfold G
    rw [bigSep_sep', bigSep_sep', bigSep_sep']
  iintro H
  imod (Rounds.fund ER (Rd m) cells tokens) $$ H with ⟨Hst, Hr, Hat, Ht⟩
  imodintro
  ihave Hst := (Entails.of_eq (hC fun g => roundState ER (Rd m) g 0)) $$ Hst
  ihave Hat := (Entails.of_eq (hC fun g => atPos ER g 0 ∅ 0)) $$ Hat
  ihave Hr := (Entails.of_eq (hC fun g => reached ER g 0)) $$ Hr
  ihave Ht := (Entails.of_eq hT) $$ Ht
  iapply (Entails.of_eq hG.symm)
  isplitl [Hst]; · iexact Hst
  isplitl [Hat Hr]
  · isplitl [Hat] <;> iassumption
  iexact Ht

/-- One device's cells opened. -/
theorem open_cells (c : Dev nD) :
    iprop((Pipeline.ownSems0 osem c : sProp 𝕄) ∗ unscopedSems0 c ∗ G m c)
      ⊢ iprop(|={Set.univ}=> ((BI.bigSep Finset.univ fun i => iprop(∃ κ, cellInv ER (Rd m) κ (cellI (c, i)) ∗ reached ER (cellI (c, i)) 0))
          ∗ (BI.bigSep Finset.univ fun i => atPos ER (cellI (c, i)) 0 ∅ 0) ∗ private0 c ∗ made c false ∗ made c true)) := by
  have hopen : iprop((BI.bigSep Finset.univ fun i => semVal (cellI (c, i)) 0) ∗ (BI.bigSep Finset.univ fun i => roundState ER (Rd m) (cellI (c, i)) 0))
      ⊢ (|={Set.univ}=> BI.bigSep Finset.univ fun i => iprop(∃ κ : ℕ, cellInv ER (Rd m) κ (cellI (c, i))) : sProp 𝕄) := by
    rw [← bigSep_sep']
    exact (bigSep_mono fun i _ => (Rounds.body_intro ER (Rd m) (cellI (c, i))).trans inv_alloc).trans (bigSep_fupd _ _)
  have hboth : iprop((BI.bigSep Finset.univ fun i => iprop(∃ κ : ℕ, cellInv ER (Rd m) κ (cellI (c, i)))) ∗ BI.bigSep Finset.univ fun i => reached ER (cellI (c, i)) 0)
      ⊢ (BI.bigSep Finset.univ fun i => iprop(∃ κ, cellInv ER (Rd m) κ (cellI (c, i)) ∗ reached ER (cellI (c, i)) 0) : sProp 𝕄) := by
    have hone (i : CI) : iprop((∃ κ : ℕ, cellInv ER (Rd m) κ (cellI (c, i))) ∗ reached ER (cellI (c, i)) 0)
        ⊢ (iprop(∃ κ, cellInv ER (Rd m) κ (cellI (c, i)) ∗ reached ER (cellI (c, i)) 0) : sProp 𝕄) := by
      iintro ⟨⟨%κ, Hi⟩, Hr⟩
      iexists κ
      isplitl [Hi] <;> iassumption
    rw [← bigSep_sep']
    exact bigSep_mono fun i _ => hone i
  unfold G
  iintro ⟨Ho, Hu, Hst, ⟨Hat, Hr⟩, Ht⟩
  ihave Hz := (zeros_eq c) $$ [Ho Hu]
  · isplitl [Ho] <;> iassumption
  icases Hz with ⟨Hv, Hp⟩
  imod hopen $$ [Hv Hst] with Hi
  · isplitl [Hv] <;> iassumption
  imodintro
  isplitl [Hi Hr]
  · iapply hboth
    isplitl [Hi] <;> iassumption
  isplitl [Hat]; · iexact Hat
  isplitl [Hp] <;> iassumption

/-- Every device's cells opened and the tokens dealt round the ring. -/
theorem glob : (BI.bigSep Finset.univ fun c => iprop((Pipeline.ownSems0 osem c : sProp 𝕄) ∗ unscopedSems0 c ∗ G m c))
    ⊢ iprop(|={Set.univ}=> BI.bigSep Finset.univ (G' m)) := by
  have hopen : (BI.bigSep Finset.univ fun c => iprop((Pipeline.ownSems0 osem c : sProp 𝕄) ∗ unscopedSems0 c ∗ G m c))
      ⊢ iprop(|={Set.univ}=> (opened m
        ∗ (BI.bigSep Finset.univ fun c : Dev nD => BI.bigSep Finset.univ fun i : CI => atPos ER (cellI (c, i)) 0 ∅ 0)
        ∗ (BI.bigSep Finset.univ fun c : Dev nD => private0 c) ∗ (BI.bigSep Finset.univ fun c : Dev nD => made c false)
        ∗ BI.bigSep Finset.univ fun c : Dev nD => made c true)) := by
    unfold opened
    rw [bigSep_univ_prod, ← bigSep_sep', ← bigSep_sep', ← bigSep_sep', ← bigSep_sep']
    exact (bigSep_mono fun c _ => open_cells m c).trans (bigSep_fupd _ _)
  have hG : BI.bigSep Finset.univ (G' m)
      = iprop((BI.bigSep Finset.univ fun _ : Dev nD => opened m)
        ∗ (BI.bigSep Finset.univ fun c : Dev nD => BI.bigSep Finset.univ fun i : CI => atPos ER (cellI (c, i)) 0 ∅ 0)
        ∗ (BI.bigSep Finset.univ fun c : Dev nD => private0 c) ∗ (BI.bigSep Finset.univ fun c : Dev nD => paying c false)
        ∗ BI.bigSep Finset.univ fun c : Dev nD => paying c true) := by
    unfold G'
    rw [bigSep_sep', bigSep_sep', bigSep_sep', bigSep_sep']
  rw [hG]
  iintro H
  imod hopen $$ H with ⟨#Hi, Hat, Hp, Ht, Ht'⟩
  imodintro
  isplitr
  · iapply (BI.bigSep_of_persistent Finset.univ (opened m))
    unfold opened
    iexact Hi
  isplitl [Hat]; · iexact Hat
  isplitl [Hp]; · iexact Hp
  isplitl [Ht]
  · iapply (made_paying false); iexact Ht
  · iapply (made_paying true); iexact Ht'

end Cert.KernelIdeal.Exchange
-- ==== Proof.Ideal.Credit.lean ====
/-
# The launch credit

For every unit the devices owe one another the launch makes one unit of credit. Counted by semaphore and hop, it is
what the waits of the body spend.
-/
module

public import proofs.«01_k».proof.Proof.Ideal.Deal
public import Idealize.ShloMosaic.Lib.Pipeline.Launch

@[expose] public section

noncomputable section

namespace Cert.KernelIdeal.Exchange

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]
local notation "𝕄" => MT nD τ sig ℕ (Elt F) ℕ UU ℕ

variable (m : (ℓ : Loc nD τ sig) → Buf (Elt F) ℓ)

/-- What all devices together owe one due's semaphore of device `c`. -/
theorem due_sum (c : Dev nD) (t : Due) (sm : SemLoc sig) (i : ℕ) :
    (∑ e : Dev nD, t.at e ((c : Thread nD τ), sm) i) = if sm = semOf t.role ∧ i = t.hop then units t.role else 0 := by
  unfold Due.at
  rw [Finset.sum_eq_single (frm t.dir c) (fun e _ he => ?_) (fun h => absurd (Finset.mem_univ _) h), tgt_frm, tallyAt_apply]
  · simp only [Prod.mk.injEq, true_and]
  · rw [tallyAt_apply]
    refine if_neg fun h => he ?_
    have hc : c = tgt t.dir e := congrArg (fun g : GSem nD τ sig => g.1.1) h.1
    rw [hc, frm_tgt]

theorem owe_sum (c : Dev nD) (x : Role) (hx : roleOf (semOf x) = x) (l : List Due) (hl : ∀ t ∈ l, roleOf (semOf t.role) = t.role) (i : ℕ) :
    (∑ e : Dev nD, oweL e l ((c : Thread nD τ), semOf x) i)
      = (((l.filter fun t => t.role = x).map fun t => t.hop).map fun h => Finsupp.single h (units x) i).sum := by
  induction l with
  | nil => exact Finset.sum_eq_zero fun _ _ => rfl
  | cons t l ih =>
    have ih := ih fun t ht => hl t (List.mem_cons_of_mem _ ht)
    have h : (∑ e : Dev nD, oweL e (t :: l) ((c : Thread nD τ), semOf x) i)
        = (∑ e : Dev nD, oweL e l ((c : Thread nD τ), semOf x) i) + ∑ e : Dev nD, t.at e ((c : Thread nD τ), semOf x) i := by
      rw [← Finset.sum_add_distrib]; rfl
    rw [h, ih, due_sum]
    by_cases ht : t.role = x
    · rw [List.filter_cons_of_pos (by simpa using ht), List.map_cons, List.map_cons, List.sum_cons, Finsupp.single_apply, ht, Nat.add_comm]
      congr 1
      by_cases hi : i = t.hop
      · rw [if_pos ⟨rfl, hi⟩, if_pos hi.symm]
      · rw [if_neg fun h => hi h.2, if_neg fun h => hi h.symm]
    · rw [List.filter_cons_of_neg (by simpa using ht), if_neg, Nat.add_zero]
      intro h
      exact ht ((hl t List.mem_cons_self).symm.trans ((congrArg roleOf h.1).symm.trans hx))

/-- Everything owed at the launch. -/
abbrev owed (c : Dev nD) : CellTallies nD τ sig ℕ := owe c 0

theorem credit_of (c : Dev nD) (i : CI) (hops : List ℕ) (h : ((dues.filter fun t => t.role = roleI i).map fun t => t.hop) = hops) :
    launchCredit (Pipeline.owing owed) 0 (cellI (c, i)) = (hops.map fun h => Finsupp.single h (units (roleI i))).sum := by
  subst h
  refine Finsupp.ext fun j => ?_
  rw [Pipeline.launchCredit_owing]
  refine (owe_sum c (roleI i) (role_sem i) dues role_semOf j).trans ?_
  generalize ((dues.filter fun t => t.role = roleI i).map fun t => t.hop) = l
  induction l with
  | nil => rfl
  | cons a l ih => rw [List.map_cons, List.sum_cons, List.map_cons, List.sum_cons, Finsupp.add_apply, ih]

/-- The credit of one cell of device `c`. -/
abbrev credAt (c : Dev nD) (i : CI) : sProp 𝕄 := cred (tallyOn (cellI (c, i)) (launchCredit (Pipeline.owing owed) 0 (cellI (c, i))))

theorem cred_bar (c : Dev nD) : (credAt c none : sProp 𝕄) ⊢ cred (tallyAt (barCell c) 0 2) := by
  unfold credAt
  rw [credit_of c none [0, 0] (by decide)]
  refine Entails.of_eq (congrArg cred ?_)
  show tallyOn (barCell c) (Finsupp.single 0 1 + (Finsupp.single 0 1 + 0)) = _
  rw [add_zero, ← Finsupp.single_add]
  rfl
theorem cred_cr (c : Dev nD) (d : Bool) : (credAt c (some (d, none)) : sProp 𝕄) ⊢ cred (tallyAt (crCell c d) 0 1) := by
  unfold credAt
  rw [credit_of c (some (d, none)) [0] (by revert d; decide)]
  refine Entails.of_eq (congrArg cred ?_)
  show tallyOn (crCell c d) (Finsupp.single 0 1 + 0) = _
  rw [add_zero]
  rfl
theorem cred_rc0 (c : Dev nD) (d : Bool) (k : Fin 4) :
    (credAt c (some (d, some (0, k))) : sProp 𝕄) ⊢ iprop(due c d 0 k 0 ∗ due c d 0 k 2) := by
  unfold credAt
  rw [credit_of c (some (d, some (0, k))) [0, 2] (by revert d k; decide), List.map_cons, List.map_cons, List.map_nil, List.sum_cons, List.sum_cons,
    List.sum_nil, add_zero, tallyOn_add]
  exact (cred_add _ _).1
theorem cred_rc1 (c : Dev nD) (d : Bool) (k : Fin 4) : (credAt c (some (d, some (1, k))) : sProp 𝕄) ⊢ due c d 1 k 1 := by
  unfold credAt
  rw [credit_of c (some (d, some (1, k))) [1] (by revert d k; decide), List.map_cons, List.map_nil, List.sum_cons, List.sum_nil, add_zero]
  exact BI.Entails.refl _

/-- The credit of direction `d`. -/
def credits (c : Dev nD) (d : Bool) : sProp 𝕄 :=
  iprop(cred (tallyAt (crCell c d) 0 1)
    ∗ (BI.bigSep Finset.univ fun k : Fin 4 => iprop(due c d 0 k 0 ∗ due c d 0 k 2)) ∗ BI.bigSep Finset.univ fun k : Fin 4 => due c d 1 k 1)

theorem credits_of (c : Dev nD) : (Pipeline.launchCred owed c : sProp 𝕄)
    ⊢ iprop(cred (tallyAt (barCell c) 0 2) ∗ credits c false ∗ credits c true) := by
  have hsub : (Pipeline.launchCred owed c : sProp 𝕄) ⊢ BI.bigSep Finset.univ fun i => credAt c i := by
    unfold Pipeline.launchCred
    refine (BI.bigSep_subset (Finset.subset_univ (Finset.univ.map ⟨fun i : CI => semOf (roleI i), semI_inj⟩))).trans ?_
    rw [BI.bigSep_map]
    exact BI.Entails.refl _
  have hdir (d : Bool) : iprop(credAt c (some (d, none)) ∗ BI.bigSep Finset.univ fun p : Fin 2 × Fin 4 => credAt c (some (d, some p))) ⊢ (credits c d : sProp 𝕄) := by
    have h0 : (BI.bigSep Finset.univ fun k : Fin 4 => credAt c (some (d, some (0, k))) : sProp 𝕄)
        ⊢ BI.bigSep Finset.univ fun k : Fin 4 => iprop(due c d 0 k 0 ∗ due c d 0 k 2) := bigSep_mono fun k _ => cred_rc0 c d k
    have h1 : (BI.bigSep Finset.univ fun k : Fin 4 => credAt c (some (d, some (1, k))) : sProp 𝕄)
        ⊢ BI.bigSep Finset.univ fun k : Fin 4 => due c d 1 k 1 := bigSep_mono fun k _ => cred_rc1 c d k
    unfold credits
    rw [pair_join]
    iintro ⟨Hc, H0, H1⟩
    isplitl [Hc]; · iapply (cred_cr c d); iexact Hc
    isplitl [H0]
    · iapply h0; iexact H0
    · iapply h1; iexact H1
  refine hsub.trans ?_
  rw [over_cells, over_bool]
  iintro ⟨Hb, Hd, Hd'⟩
  isplitl [Hb]; · iapply (cred_bar c); iexact Hb
  isplitl [Hd]
  · iapply (hdir false); iexact Hd
  · iapply (hdir true); iexact Hd'

/-- One direction's share of the dealt ghost state is what the body asks for. -/
theorem dir_given (c : Dev nD) (d : Bool) :
    iprop((atPos ER (crCell c d) 0 ∅ 0 ∗ BI.bigSep Finset.univ fun p : Fin 2 × Fin 4 => atPos ER (rcCell c d p.1 p.2) 0 ∅ 0)
        ∗ (semVal ((c : Thread nD τ), .dma (loadS d)) 0 ∗ BI.bigSep Finset.univ fun k : Fin 4 => sendZero c d k)
        ∗ paying c d ∗ credits c d)
      ⊢ (dirX c d : sProp 𝕄) := by
  rw [pair_join]
  unfold dirX paying arrivals credits stand turn
  simp only [bigSep_sep']
  iintro ⟨⟨Hc, Ha0, Ha1⟩, ⟨Hl, Hz⟩, ⟨Htb, Htc, T0, T1, T2⟩, Hcr, ⟨D0, D2⟩, D1⟩
  isplitl [Hl]; · iexact Hl
  isplitl [Htb]; · iexact Htb
  isplitl [Htc]; · iexact Htc
  isplitl [Hcr]; · iexact Hcr
  isplitl [Hc]; · iexact Hc
  isplitl [Hz]; · iexact Hz
  isplitl [Ha0 Ha1]; · isplitl [Ha0] <;> iassumption
  isplitl [D0 T0]
  · isplitl [D0]; · iexact D0
    iexact T0
  isplitl [D1 T1]
  · isplitl [D1]; · iexact D1
    iexact T1
  isplitl [D2]; · iexact D2
  iexact T2

/-- What the launch deals, gathered. -/
theorem given_intro (c : Dev nD) :
    iprop(G' m c ∗ levAts L lv ∗ Pipeline.launchCred owed c ∗ argAt m c fullShare ∗ anyAt c outM) ⊢ given m c := by
  unfold G' given private0
  rw [over_cells, over_bool, over_bool]
  iintro ⟨⟨Hf, ⟨Hb, Hd, Hd'⟩, ⟨⟨Hz0, Hz1⟩, Hp, Hp'⟩, Ht, Ht'⟩, Hl, Hc, Ha, Ho⟩
  ihave Hc := (credits_of c) $$ Hc
  icases Hc with ⟨Hcb, Hc, Hc'⟩
  isplitl [Hf Hl]
  · unfold facts opened
    isplitl [Hf] <;> iassumption
  isplitl [Ha]; · iexact Ha
  isplitl [Ho]; · iexact Ho
  isplitl [Hcb]; · iexact Hcb
  isplitl [Hb]; · iexact Hb
  isplitl [Hz0]; · iexact Hz0
  isplitl [Hz1]; · iexact Hz1
  isplitl [Hd Hp Ht Hc]
  · iapply (dir_given c false)
    isplitl [Hd]; · iexact Hd
    isplitl [Hp]; · iexact Hp
    isplitl [Ht] <;> iassumption
  · iapply (dir_given c true)
    isplitl [Hd']; · iexact Hd'
    isplitl [Hp']; · iexact Hp'
    isplitl [Ht'] <;> iassumption

end Cert.KernelIdeal.Exchange
-- ==== Proof.Ideal.Launch.lean ====
/-
# The run

The body meets the launch's obligation, and the run follows: it ends, with the result at the computed contents, the
arguments as they were and every semaphore at zero.
-/
module

public import proofs.«01_k».proof.Proof.Ideal.Credit
public import Idealize.ShloMosaic.Lib.Pipeline.CollectiveSegs

@[expose] public section

noncomputable section

namespace Cert.KernelIdeal.Exchange

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]
local notation "𝕄" => MT nD τ sig ℕ (Elt F) ℕ UU ℕ

variable (m : (ℓ : Loc nD τ sig) → Buf (Elt F) ℓ) (ρ : Dev nD → PrngReg)

/-- The memory at the start: all counters zero. -/
def s₀ : MemSt nD τ sig (Elt F) := ⟨m, fun _ => 0, ρ⟩
/-- The scale vector as device `c` fetches it. -/
def gam (c : Dev nD) : S2048.Idx → Elt F .f32 :=
  (win0_0.blk (0 : Fin 1)).view.read (Elt F) ((s₀ m ρ).mem ((c : Thread nD τ).loc main_arg1))

def before0 (c : Dev nD) : sProp 𝕄 := iprop(given m c ∗ Pipeline.scopedRest spec0 c)
def after0 (c : Dev nD) : sProp 𝕄 :=
  iprop((unscopedSems0 c ∗ argAt m c fullShare ∗ owns (c : Thread nD τ) outM fullShare (outV m c (gam m ρ c)))
    ∗ Pipeline.ownSems0 osem c ∗ Pipeline.scopedRest spec0 c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => gam m ρ c
  Φ t := match t with
    | ⟨0, _⟩ => before0 m c
    | ⟨_ + 1, _⟩ => after0 m ρ c
  q _ := fullShare
  owed t := match t with
    | ⟨0, _⟩ => owed c
    | ⟨_ + 1, _⟩ => 0

theorem cfg0_N : cfg0.N = 1 := by decide
def t₀ : Fin cfg0.N := ⟨0, by rw [cfg0_N]; decide⟩
theorem fin_N (t : Fin cfg0.N) : t = t₀ := by
  have := cfg0_N
  have := t.isLt
  exact Fin.ext (by show t.val = 0; omega)
theorem bigSep_W (P : Fin cfg0.W → sProp 𝕄) : BI.bigSep Finset.univ P = P (0 : Fin 1) := bigSep_W0 P
theorem fetch_0 : (cfg0.win (0 : Fin 1)).fetch t₀ = true := rfl

theorem launch_body (c : Dev nD) :
    iprop(before0 m c ∗ (dats m ρ 0 c).owesAt 0 t₀.castSucc
        ∗ ∃ d, owns (c : Thread nD τ) gamM fullShare ((dats m ρ 0 c).before (0 : Fin 1) t₀ d))
      ⊢ run c body fun _ => iprop(after0 m ρ c ∗ (dats m ρ 0 c).owesAt 0 t₀.succ ∗ owns (c : Thread nD τ) gamM fullShare (gam m ρ c)) := by
  have hg (d) : (dats m ρ 0 c).before (0 : Fin 1) t₀ d = gam m ρ c := by
    unfold Dat.before; rw [if_pos fetch_0]; rfl
  iintro ⟨Hp, Ho, %d, Hg⟩
  rw [hg d]
  iapply (body_runs m c (gam m ρ c))
  unfold before0
  icases Hp with ⟨Hx, Hs⟩
  ihave #Hf := (show given m c ⊢ facts m from by unfold given; iintro ⟨H, -⟩; iexact H) $$ Hx
  isplitl
  · iapply (body_entry m c (gam m ρ c))
    isplitl [Hx]; · iexact Hx
    isplitl [Ho]
    · unfold Dat.owesAt Pipeline.owesWithin
      icases Ho with ⟨%W, %hW, HO⟩
      unfold owing
      iexists W; iexact HO
    isplitl [Hg] <;> iassumption
  · iintro Hb
    imod (body_exit m c (gam m ρ c)) $$ [Hb] with ⟨HO, Hg, Hr, Hz, Hs⟩
    · isplitr [Hb] <;> iassumption
    imodintro
    unfold givenBack after0
    icases Hr with ⟨Hb, Ha, Hv⟩
    ihave Hz := (allZero_eq c) $$ [Hb Hz]
    · isplitl [Hb] <;> iassumption
    icases Hz with ⟨Hu, Hz⟩
    isplitl [Hu Ha Hv Hz Hs]
    · isplitl [Hu Ha Hv]
      · isplitl [Hu]; · iexact Hu
        isplitl [Ha] <;> iassumption
      isplitl [Hz] <;> iassumption
    isplitl [HO]
    · unfold owing Dat.owesAt Pipeline.owesWithin
      icases HO with ⟨%W, HO⟩
      iexists W
      isplitr
      · ipureintro; exact fun _ _ => Or.inl trivial
      iexact HO
    iexact Hg

set_option maxRecDepth 20000 in
theorem body_obligation (c : Dev nD) : BodyObligation (dats (F := F) m ρ 0 c) (defs₀ (F := F)) 𝒱₀ 0 Set.univ := fun t => by
  rw [fin_N t, bigSep_W, bigSep_W]
  exact launch_body m ρ c

/-! ## The launch -/

abbrev EP : Emb (UR sig nD τ) 𝕄 := embL
def u₀ : UU := (initOf (Pipeline.cells cfgs cellOf_inj) (Pipeline.launchToks cfgs cellOf_inj), (initOf cells tokens, 1))

theorem share_eq (c : Dev nD) (w : Fin cfg0.W) : (dats m ρ 0 c).share w = fullShare := by unfold Dat.share; split <;> rfl

theorem fund_all : (ownU u₀ : sProp 𝕄) ⊢ |={Set.univ}=> iprop((BI.own (EP (initOf (Pipeline.cells cfgs cellOf_inj) (Pipeline.launchToks cfgs cellOf_inj))) ∗ BI.bigSep Finset.univ (G m))) := by
  unfold u₀
  iintro Hu
  ihave H := (ownU_pair _ _) $$ Hu
  icases H with ⟨HP, HX⟩
  ihave H := (own_pair_emb embR _ _) $$ HX
  icases H with ⟨HX, -⟩
  imod (show (BI.own (((Emb.inl : Emb UB (UB × Counters)).trans embR).toFun (initOf cells tokens)) : sProp 𝕄) ⊢ iprop(|==> BI.bigSep Finset.univ (G m)) from fund m) $$ HX with HG
  imodintro
  isplitl [HP] <;> iassumption

theorem enter (c : Dev nD) :
    iprop(Pipeline.unscopedRestP Pipeline.Prefetch.none cfg0.spec c (fun b => m ((c : Thread nD τ).loc b)) ∗ levAts L lv
        ∗ Pipeline.launchCred owed c ∗ prngReg c (ρ c) ∗ G' m c)
      ⊢ |={Set.univ}=> iprop(given m c ∗ emp) := by
  rw [Pipeline.unscopedRestP_none, unscopedRest0_eq]
  iintro ⟨⟨Ha, Hv⟩, Hl, Hc, -, HG⟩
  imodintro
  isplitl
  · iapply (given_intro m c)
    isplitl [HG]; · iexact HG
    isplitl [Hl]; · iexact Hl
    isplitl [Hc]; · iexact Hc
    isplitl [Ha]; · unfold argAt; iexact Ha
    rw [any_whole]
    iexists _; iexact Hv
  · iempintro

theorem phi_in (c : Dev nD) :
    iprop(given m c ∗ Pipeline.prefHeld Pipeline.Prefetch.none c (fun _ => fullShare.right) (fun k => k.elim0) ∗ Pipeline.scopedRest cfg0.spec c)
      ⊢ (dats m ρ 0 c).Φ 0 := by
  show _ ⊢ before0 m c
  unfold before0
  iintro ⟨Hg, -, Hs⟩
  isplitl [Hg] <;> iassumption

theorem phi_out (c : Dev nD) : (dats m ρ 0 c).Φ (Fin.last cfg0.N)
    ⊢ iprop((unscopedSems0 c ∗ argAt m c fullShare ∗ owns (c : Thread nD τ) outM fullShare (outV m c (gam m ρ c)))
      ∗ Pipeline.ownSems0 osem c ∗ Pipeline.scopedRest cfg0.spec c) := BI.Entails.refl _

theorem waits (c : Dev nD) : (levAts L lv : sProp 𝕄) ⊢ Pipeline.cellsWaits cfgs (dats m ρ) 0 0 c :=
  Pipeline.cellsWaits_intro cfgs (dats m ρ) 0 0 c fun w s t => by
    have hw : (levAts L lv : sProp 𝕄) ⊢ MayWait (c : Thread nD τ) (.dma ((cfg0.win w).sem s)) 0 ((dats m ρ 0 c).owed t) := by
      rcases t with ⟨_ | _, ht⟩
      · exact mayWait_own c _ (by fin_cases w <;> fin_cases s <;> decide) 0
      · exact mayWait_own c _ (by fin_cases w <;> fin_cases s <;> decide) 28
    exact hw

/-- What the state holds on device `c` at the end. -/
def Ends (c : Dev nD) (s : MemSt nD τ sig (Elt F)) : Prop :=
  (s.mem ((c : Thread nD τ).loc main_arg0) = m ((c : Thread nD τ).loc main_arg0)
    ∧ s.mem ((c : Thread nD τ).loc main_v1) = outV m c (gam m ρ c))
  ∧ ∀ sm : SemLoc sig, sm.isScoped .tc = false → s.sem ((c.tc : Thread nD τ), sm) = 0

theorem read_end (c : Dev nD) (s' : Phys nD τ sig (Elt F)) :
    iprop((unscopedSems0 c ∗ argAt m c fullShare ∗ owns (c : Thread nD τ) outM fullShare (outV m c (gam m ρ c))) ∗ emp ∗ SI s')
      ⊢ |={Set.univ}=> iprop(⌜Ends m ρ c s'.mem⌝ ∗ SI s') := by
  unfold argAt
  rw [show (owns (c : Thread nD τ) outM fullShare (outV m c (gam m ρ c)) : sProp 𝕄)
    = iprop(∃ f : Buf (Elt F) ((c : Thread nD τ).loc main_v1), ⌜f = outV m c (gam m ρ c)⌝ ∗ ((c : Thread nD τ).loc main_v1) ↦{fullShare} f) from by
      unfold owns; simp only [Memref.view_whole, View.read_whole, View.set_whole]]
  iintro ⟨⟨Hu, Ha, %f, %hf, Hv⟩, -, HSI⟩
  imod (Pipeline.unscopedSems0_read (X := unscopedSems0 c) (c := c) fupd_intro s') $$ [Hu HSI] with ⟨%hz, HSI⟩
  · isplitl [Hu] <;> iassumption
  ihave %ha := (SI_pointsTo_agree) $$ [Ha HSI]
  · isplitl [HSI] <;> iassumption
  ihave %hv := (SI_pointsTo_agree) $$ [Hv HSI]
  · isplitl [HSI] <;> iassumption
  imodintro
  isplitr
  · ipureintro
    exact ⟨⟨funext fun i => ha i (Finset.mem_univ i), (funext fun i => hv i (Finset.mem_univ i)).trans hf⟩, hz⟩
  iexact HSI

def finalA (c : Dev nD) (w : Fin cfg0.W) : Buf (Elt F) ((cfg0.win w).arr.view.loc (c : Thread nD τ)) := (dats m ρ 0 c).arrAt w cfg0.N

set_option maxRecDepth 20000 in
theorem run_raw : θ_run defs (onTc (τ := τ) (main (F := F))) (s₀ m ρ)
    (fun r => (∀ c : Dev nD, (∀ w : Fin cfg0.W, r.2.mem ((cfg0.win w).arr.view.loc (c : Thread nD τ)) = finalA m ρ c w) ∧ Ends m ρ c r.2)
      ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owed) (howed₀ := fun _ => rfl) (howedN := fun _ => rfl)
    (L := L) (lv := lv) (hL := L_of_ne) (hwaits := waits m ρ)
    (G := G m) (G' := G' m) (u₀ := u₀) (hu₀ := fund_all m) (hglob := glob m)
    (hA := fun _ _ => rfl) (hpf := fun _ k => k.elim0)
    (X := given m) (Y := fun c => iprop(unscopedSems0 c ∗ argAt m c fullShare ∗ owns (c : Thread nD τ) outM fullShare (outV m c (gam m ρ c))))
    (Z := fun _ => iprop(emp))
    (hX := enter m ρ) (hin := phi_in m ρ) (hout := phi_out m ρ)
    (QY := Ends m ρ) (hY := read_end m ρ)
    (hQ := fun _ h hs => ⟨fun c => ⟨(h c).1, (h c).2.2⟩, sem_eq_zero hs fun c => (h c).2.2.2⟩)

/-- Every fair run of the program from zero counters ends; the result is the computed one, the arguments are unchanged
    and every counter is zero again. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v1) = outV m c (gam m ρ c))
      ∧ r.2.sem = fun _ => 0) := by
  refine (run_raw m ρ).mono ?_
  rintro r ⟨h, hz⟩
  exact ⟨fun c => ⟨(h c).2.1.1, ((h c).1 (0 : Fin 1)).trans ((dats m ρ 0 c).arrAt_in (0 : Fin 1) rfl _), (h c).2.1.2⟩, hz⟩

end Cert.KernelIdeal.Exchange
-- ==== Proof.Ideal.Value.lean ====
/-
# What the kernel computes

Over the extended reals a cast is the identity, so what travels round the ring is a plain sum, and each device ends with
the sum of the four devices' rows, each row divided by its root mean square and scaled.
-/
module

public import proofs.«01_k».proof.Proof.Ideal.Launch
public import proofs.«01_k».proof.Proof.Gen.ReferenceIdeal.Run
public import Idealize.ShloMosaic.Lib.Pointwise

@[expose] public section

noncomputable section

namespace Cert.KernelIdeal.Exchange

open Cert.KernelIdeal Cert.KernelIdeal.Gen

open Idealize.ShloMosaic Idealize.ShloMosaic.TcCoe

variable (m : (ℓ : Loc nD τ sig) → Buf (Elt Ideal) ℓ)

/-! ## The sum round the ring -/

/-- The device whose rows hop `s` adds on device `c`. -/
def dest (d : Bool) : ℕ → Dev nD → Dev nD
  | 0, c => frm d c
  | s + 1, c => dest d s (frm d c)
theorem dest_three (d : Bool) (c : Dev nD) : dest d 3 c = c := by revert d c; decide

theorem srcOff_eq (d : Bool) (s : Fin 4) (c : Dev nD) :
    srcOff d s.val c = ![0, 2048 * (dest d s.val c).val, if d then 1024 else 0] := by
  revert d s c; decide

/-- Column `j` of the half of direction `d`. -/
def colOf (d : Bool) (j : Fin 1024) : Fin 2048 := ⟨(if d then 1024 else 0) + j.val, by cases d <;> simp <;> omega⟩
/-- Row `r` of chunk `k` of device `c`'s rows. -/
def rowOf (c : Dev nD) (k : Fin 4) (r : Fin 512) : Fin 8192 :=
  ⟨2048 * c.val + (512 * k.val + r.val), by have h : c.val < 4 := c.isLt; omega⟩

theorem part_at (c : Dev nD) (d : Bool) (s : Fin 4) (k : Fin 4) (r : Fin 512) (j : Fin 1024) :
    rows k (part m c d s.val) (ix2 r j)
      = m ((c : Thread nD τ).loc main_arg0) (ix3 (0 : Fin 1) (rowOf (dest d s.val c) k r) (colOf d j)) := by
  have hr : (rowR k).emb (ix2 r j) = ix2 (⟨512 * k.val + r.val, by omega⟩ : Fin 2048) j := by
    funext a
    refine Fin.ext ((ValueKit.rect_emb_unit_val _ _ _ _ a).trans ?_)
    match a with
    | ⟨0, _⟩ => rfl
    | ⟨1, _⟩ => exact Nat.zero_add _
  unfold rows
  rw [hr]
  show m ((c : Thread nD τ).loc main_arg0) ((Rect.unit (s := S1x8192x2048) (srcOff d s.val c) S1x2048x1024.size (srcOff_inb d s.val c)).emb
    (Shape.reshapeEquiv (squeezes_S1x2048x1024_S2048x1024.numel_eq) (ix2 (⟨512 * k.val + r.val, by omega⟩ : Fin 2048) j))) = _
  have hs (h : S2048x1024.numel = S1x2048x1024.numel) (x : Fin 2048) :
      Shape.reshapeEquiv h (ix2 x j) = (ix3 (0 : Fin 1) x j : S1x2048x1024.Idx) := ValueIdx.reshapeEquiv_ix2_1ab h x j
  rw [hs]
  refine congrArg _ (funext fun a => Fin.ext ((ValueKit.rect_emb_unit_val _ _ _ _ a).trans ?_))
  refine (congrArg (· + _) (congrFun (srcOff_eq d s c) a)).trans ?_
  match a with
  | ⟨0, _⟩ => rfl
  | ⟨1, _⟩ => rfl
  | ⟨2, _⟩ => rfl

theorem sent_zero (d : Bool) (k : Fin 4) (c : Dev nD) (i : S512x1024.Idx) :
    sent m d k 0 c i = rows k (part m c d 0) i := by
  unfold sent
  pointwise [k0_pay1]

theorem sent_succ (d : Bool) (k : Fin 4) (s : ℕ) (c : Dev nD) (i : S512x1024.Idx) :
    sent m d k (s + 1) c i = ((rows k (part m c d (s + 1)) i : EReal) + sent m d k s (frm d c) i : EReal) := by
  conv_lhs => unfold sent
  pointwise [k0_pay9, lift]

/-- The four devices, met one after the other round the ring. -/
theorem sum_ring (d : Bool) (c : Dev nD) (f : Dev nD → EReal) :
    f c + (f (frm d c) + (f (frm d (frm d c)) + f (frm d (frm d (frm d c))))) = ∑ a, f a := by
  have h : (Finset.univ : Finset (Dev nD)).val = c ::ₘ frm d c ::ₘ frm d (frm d c) ::ₘ {frm d (frm d (frm d c))} := by
    revert d c; decide
  show _ = (Multiset.map f Finset.univ.val).sum
  rw [h]
  simp

/-- What a device ends with in direction `d`, before the scaling. -/
theorem total_at (X : (⟨3, ![4, 8192, 2048]⟩ : Shape).Idx → EReal)
    (hX : ∀ (c : Dev nD) (r : Fin 8192) (j : Fin 2048), m ((c : Thread nD τ).loc main_arg0) (ix3 (0 : Fin 1) r j) = X (ix3 c r j))
    (c : Dev nD) (d : Bool) (k : Fin 4) (r : Fin 512) (j : Fin 1024) :
    ((rows k (part m c d 3) (ix2 r j) : EReal) + sent m d k 2 (frm d c) (ix2 r j) : EReal)
      = ∑ a : Dev nD, X (ix3 a (rowOf c k r) (colOf d j)) := by
  rw [sent_succ, sent_succ, sent_zero]
  have h3 := part_at m c d 3 k r j
  have h2 := part_at m (frm d c) d 2 k r j
  have h1 := part_at m (frm d (frm d c)) d 1 k r j
  have h0 := part_at m (frm d (frm d (frm d c))) d 0 k r j
  rw [hX] at h0 h1 h2 h3
  have e : ∀ x, dest d 3 c = x → x = c := fun x hx => hx.symm.trans (dest_three d c)
  rw [show dest d (3 : Fin 4).val c = c from e _ rfl] at h3
  rw [show dest d (2 : Fin 4).val (frm d c) = c from e _ rfl] at h2
  rw [show dest d (1 : Fin 4).val (frm d (frm d c)) = c from e _ rfl] at h1
  rw [show dest d (0 : Fin 4).val (frm d (frm d (frm d c))) = c from e _ rfl] at h0
  exact (congrArg₂ (· + ·) h3 (congrArg₂ (· + ·) h2 (congrArg₂ (· + ·) h1 h0))).trans
    (sum_ring d c fun a => X (ix3 a (rowOf c k r) (colOf d j)))

/-! ## The scaling -/

/-- One element of the result: `y` over the root mean square of a row with square sum `q`, times `g`. -/
def scaled (y q g : EReal) : EReal := Ideal.div y (Ideal.sqrt (Ideal.div q (Ideal.ofBits .f32 0x45000000#32) + Ideal.ofBits .f32 0x358637BD#32)) * g

theorem scaled_congr {y y' q q' g g' : EReal} (hy : y = y') (hq : q = q') (hg : g = g') : scaled y q g = scaled y' q' g' := by
  rw [hy, hq, hg]

theorem left_at (x₀ x₁ : S512x1024.Idx → EReal) (y₀ y₁ : S512x1024.Idx → EReal) (u : S1024.Idx → EReal) (r : Fin 512) (j : Fin 1024) :
    k0_pay29 (F := Ideal) x₀ (lift y₀) x₁ (lift y₁) u (ix3 (0 : Fin 1) r j)
      = scaled (x₀ (ix2 r j) + y₀ (ix2 r j))
          ((∑ l : Fin 1024, (x₀ (ix2 r l) + y₀ (ix2 r l)) * (x₀ (ix2 r l) + y₀ (ix2 r l)))
            + ∑ l : Fin 1024, (x₁ (ix2 r l) + y₁ (ix2 r l)) * (x₁ (ix2 r l) + y₁ (ix2 r l))) (u (ix1 j)) := by
  pointwise [k0_pay29, k0_pay28, k0_pay27, k0_pay26, lift, scaled]

theorem right_at (x₀ x₁ : S512x1024.Idx → EReal) (y₀ y₁ : S512x1024.Idx → EReal) (u : S1024.Idx → EReal) (r : Fin 512) (j : Fin 1024) :
    k0_pay31 (F := Ideal) (k0_pay30 x₀ (lift y₀) x₁ (lift y₁) u) (ix3 (0 : Fin 1) r j)
      = scaled (x₁ (ix2 r j) + y₁ (ix2 r j))
          ((∑ l : Fin 1024, (x₀ (ix2 r l) + y₀ (ix2 r l)) * (x₀ (ix2 r l) + y₀ (ix2 r l)))
            + ∑ l : Fin 1024, (x₁ (ix2 r l) + y₁ (ix2 r l)) * (x₁ (ix2 r l) + y₁ (ix2 r l))) (u (ix1 j)) := by
  pointwise [k0_pay31, k0_pay30, k0_pay28, k0_pay27, k0_pay26, lift, scaled]

/-! ## Against the reference -/

/-- The sum of the devices' arrays, and the result the problem asks for, at row `R` and column `J`. -/
def summed (X : (⟨3, ![4, 8192, 2048]⟩ : Shape).Idx → EReal) (R : Fin 8192) (J : Fin 2048) : EReal := ∑ a : Fin 4, X (ix3 a R J)
def wanted (X : (⟨3, ![4, 8192, 2048]⟩ : Shape).Idx → EReal) (g : S2048.Idx → EReal) (R : Fin 8192) (J : Fin 2048) : EReal :=
  scaled (summed X R J) (∑ l : Fin 2048, summed X R l * summed X R l) (g (ix1 J))

theorem square_halves (X : (⟨3, ![4, 8192, 2048]⟩ : Shape).Idx → EReal) (R : Fin 8192) :
    (∑ l : Fin 1024, summed X R (colOf false l) * summed X R (colOf false l)) + (∑ l : Fin 1024, summed X R (colOf true l) * summed X R (colOf true l))
      = ∑ l : Fin 2048, summed X R l * summed X R l := by
  refine Eq.trans ?_ (Fin.sum_univ_add (a := 1024) (b := 1024) fun l => summed X R l * summed X R l).symm
  refine congrArg₂ (· + ·) (Finset.sum_congr rfl fun l _ => ?_) (Finset.sum_congr rfl fun l _ => ?_)
  · rw [show colOf false l = Fin.castAdd 1024 l from Fin.ext (Nat.zero_add _)]
  · rw [show colOf true l = Fin.natAdd 1024 l from rfl]

theorem gam_half (g : S2048.Idx → EReal) (d : Bool) (h : Fin 2) (hd : h.val = d.toNat) (j : Fin 1024) :
    g ((gamR h).emb (ix1 j)) = g (ix1 (colOf d j)) := by
  refine congrArg g (funext fun a => Fin.ext ((ValueKit.rect_emb_unit_val _ _ _ _ a).trans ?_))
  match a with
  | ⟨0, _⟩ =>
    show 1024 * h.val + j.val = (if d then 1024 else 0) + j.val
    rw [hd]; cases d <;> rfl

/-- A device's result, element by element. -/
theorem outV_at (X : (⟨3, ![4, 8192, 2048]⟩ : Shape).Idx → EReal)
    (hX : ∀ (c : Dev nD) (r : Fin 8192) (j : Fin 2048), m ((c : Thread nD τ).loc main_arg0) (ix3 (0 : Fin 1) r j) = X (ix3 c r j))
    (g : S2048.Idx → EReal) (c : Dev nD) (R J : Fin 2048) :
    outV m c g (ix2 R J) = wanted X g ⟨2048 * c.val + R.val, by have h : c.val < 4 := c.isLt; omega⟩ J := by
  have hrow : rowOf c ⟨R.val / 512, by omega⟩ ⟨R.val % 512, Nat.mod_lt _ (by decide)⟩ = ⟨2048 * c.val + R.val, by have h : c.val < 4 := c.isLt; omega⟩ :=
    Fin.ext (by show 2048 * c.val + (512 * (R.val / 512) + R.val % 512) = 2048 * c.val + R.val; omega)
  have ht : ∀ (d : Bool) (j : Fin 1024), _ := fun d j => total_at m X hX c d ⟨R.val / 512, by omega⟩ ⟨R.val % 512, Nat.mod_lt _ (by decide)⟩ j
  simp only [hrow] at ht
  unfold outV outRow glue wanted
  rw [← square_halves]
  have hs (d : Bool) := Finset.sum_congr (rfl : (Finset.univ : Finset (Fin 1024)) = _) fun l _ => congrArg₂ (· * ·) (ht d l) (ht d l)
  by_cases h : J.val < 1024
  · have hJ : colOf false ⟨J.val, h⟩ = J := Fin.ext (Nat.zero_add _)
    refine (dif_pos h).trans ((left_at _ _ _ _ _ _ _).trans (scaled_congr ?_ (congrArg₂ (· + ·) (hs false) (hs true)) ?_))
    · exact (ht false ⟨J.val, h⟩).trans (congrArg (summed X _) hJ)
    · exact (gam_half g false 0 rfl ⟨J.val, h⟩).trans (congrArg (fun x => g (ix1 x)) hJ)
  · have hJ : colOf true ⟨J.val - 1024, by omega⟩ = J := Fin.ext (by show 1024 + (J.val - 1024) = J.val; omega)
    refine (dif_neg h).trans ((right_at _ _ _ _ _ _ _).trans (scaled_congr ?_ (congrArg₂ (· + ·) (hs false) (hs true)) ?_))
    · exact (ht true ⟨J.val - 1024, by omega⟩).trans (congrArg (summed X _) hJ)
    · exact (gam_half g true 1 rfl ⟨J.val - 1024, by omega⟩).trans (congrArg (fun x => g (ix1 x)) hJ)

end Cert.KernelIdeal.Exchange

namespace Cert.ReferenceIdeal.Value

open Cert.ReferenceIdeal Cert.ReferenceIdeal.Gen Idealize.ShloMosaic

/-- The reference's result as a function of its arguments. -/
def refOut (X : S4x8192x2048.Idx → EReal) (g : S2048.Idx → EReal) : FVec Ideal S8192x2048 .f32 :=
  mulf (Host.divf (Host.reduceAdd X (constant S_ .f32 0x00000000#32) reducesTo_S4x8192x2048_S8192x2048_d0 h_S_) (broadcastInDim S8192x2048 ![0, 1] bcast_S8192x1_S8192x2048_0_1 (Host.sqrt (addf (Host.divf (broadcastInDim S8192x1 ![0] bcast_S8192_S8192x1_0 (Host.reduceAdd (mulf (Host.reduceAdd X (constant S_ .f32 0x00000000#32) reducesTo_S4x8192x2048_S8192x2048_d0 h_S_) (Host.reduceAdd X (constant S_ .f32 0x00000000#32) reducesTo_S4x8192x2048_S8192x2048_d0 h_S_)) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 g))

theorem refOut_at (X : S4x8192x2048.Idx → EReal) (g : S2048.Idx → EReal) (R : Fin 8192) (J : Fin 2048) :
    refOut X g (ix2 R J) = Cert.KernelIdeal.Exchange.wanted X g R J := by
  pointwise [refOut, Cert.KernelIdeal.Exchange.wanted, Cert.KernelIdeal.Exchange.summed, Cert.KernelIdeal.Exchange.scaled]

end Cert.ReferenceIdeal.Value
-- ==== Proof.lean ====
/-
# The certificate

The three frames, that the idealization is the program's own text, and that over the extended reals every device ends with
its block of the reference's result.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Bits.Launch
public import proofs.«01_k».proof.Proof.Ideal.Value
public import Idealize.ShloMosaic.Adequacy
public import Idealize.ShloMosaic.Init

@[expose] public section

noncomputable section

namespace Cert.Proof

open Idealize.ShloMosaic Idealize.SL.Sem

/-- The kernel ends with its arguments unchanged and every counter at zero. -/
theorem frame_kernel : Cert.quiescent_Kernel := fun m g _ =>
  (θ_run _ _ _).mono (fun _ h => ⟨fun c => ⟨(h.1 c).1, (h.1 c).2.1⟩, h.2⟩) (Cert.Kernel.Exchange.run_main (F := Bits) m g)

/-- So does its idealization. -/
theorem frame_ideal : Cert.quiescent_KernelIdeal := fun m g _ =>
  (θ_run _ _ _).mono (fun _ h => ⟨fun c => ⟨(h.1 c).1, (h.1 c).2.1⟩, h.2⟩) (Cert.KernelIdeal.Exchange.run_main (F := Ideal) m g)

/-- The reference leaves its arguments unchanged, and has no semaphores. -/
theorem frame_reference : Cert.quiescent_ReferenceIdeal := fun m g _ =>
  (θ_run _ _ _).mono (fun r h => ⟨fun c => (h c).2, sem_eq_zero_of_no_sems (by decide) r.2⟩)
    (Cert.ReferenceIdeal.Value.run (F := Ideal) m g)

open Cert.KernelIdeal.Exchange in
/-- The scale is fetched whole. -/
theorem gam_eq (m : (ℓ : Loc Cert.KernelIdeal.nD Cert.KernelIdeal.τ Cert.KernelIdeal.sig) → Buf (Elt Ideal) ℓ) (g : Dev Cert.KernelIdeal.nD → PrngReg)
    (c : Dev Cert.KernelIdeal.nD) :
    gam m g c = m ((c.tc : Thread Cert.KernelIdeal.nD Cert.KernelIdeal.τ).loc Cert.KernelIdeal.main_arg1) := by
  funext i
  show m ((c.tc : Thread Cert.KernelIdeal.nD Cert.KernelIdeal.τ).loc Cert.KernelIdeal.main_arg1) _ = m ((c.tc : Thread Cert.KernelIdeal.nD Cert.KernelIdeal.τ).loc Cert.KernelIdeal.main_arg1) i
  refine congrArg _ (funext fun a => Fin.ext ?_)
  refine (ValueKit.rect_emb_unit_val _ _ _ _ a).trans ?_
  match a with
  | ⟨0, _⟩ => exact Nat.zero_add _

/-- Both programs run, and a device's result is its block of the reference's. -/
theorem value : Cert.algebraic_KernelIdeal_ReferenceIdeal := by
  intro m g m' g' _ hm
  let X := m' (((0 : Dev Cert.ReferenceIdeal.nD).tc : Thread Cert.ReferenceIdeal.nD Cert.ReferenceIdeal.τ).loc Cert.ReferenceIdeal.main_arg0)
  refine ⟨Cert.ReferenceIdeal.Value.refOut X
    (m' (((0 : Dev Cert.ReferenceIdeal.nD).tc : Thread Cert.ReferenceIdeal.nD Cert.ReferenceIdeal.τ).loc Cert.ReferenceIdeal.main_arg1)), ?_, ?_⟩
  · refine (θ_run _ _ _).mono (fun r h c => ⟨(h.1 c).2.2.trans ?_, (h.1 c).1, (h.1 c).2.1⟩) (Cert.KernelIdeal.Exchange.run_main (F := Ideal) m g)
    rw [gam_eq, (hm c).2]
    funext i
    obtain ⟨R, J, rfl⟩ : ∃ (R J : Fin 2048), i = ix2 R J := ⟨i 0, i 1, eq_ix2 i⟩
    refine (Cert.KernelIdeal.Exchange.outV_at m X (fun c r j => ?_) _ c R J).trans ((Cert.ReferenceIdeal.Value.refOut_at X _ _ J).symm.trans ?_)
    · rw [(hm c).1]
      refine congrArg (m' _) (funext fun a => Fin.ext ?_)
      match a with
      | ⟨0, _⟩ => show c.val * 1 + 0 = c.val; omega
      | ⟨1, _⟩ => rfl
      | ⟨2, _⟩ => rfl
    · refine congrArg (Cert.ReferenceIdeal.Value.refOut _ _) (funext fun a => Fin.ext ?_)
      match a with
      | ⟨0, _⟩ => show 2048 * c.val + R.val = c.val * 2048 + R.val; omega
      | ⟨1, _⟩ => rfl
  · exact (θ_run _ _ _).mono (fun r h => h 0) (Cert.ReferenceIdeal.Value.run (F := Ideal) m' g')

theorem claim : Cert.Claim := ⟨Cert.Kernel.Gen.facts, Cert.KernelIdeal.Gen.facts, Cert.ReferenceIdeal.Gen.facts,
  frame_kernel, frame_ideal, frame_reference, trivial, value⟩

end Cert.Proof

end
